-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x32x256 : Shape := ⟨3, ![16, 32, 256]⟩
abbrev S16x32x128 : Shape := ⟨3, ![16, 32, 128]⟩
abbrev S16x32x128x128 : Shape := ⟨4, ![16, 32, 128, 128]⟩
abbrev S256x64 : Shape := ⟨2, ![256, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S16x32x256 : S_.BroadcastsInDim S16x32x256 (![] : Fin 0 → Fin S16x32x256.rank)
  bcast_S_S16x32x128 : S_.BroadcastsInDim S16x32x128 (![] : Fin 0 → Fin S16x32x128.rank)
  bcast_S_S16x32x128x128 : S_.BroadcastsInDim S16x32x128x128 (![] : Fin 0 → Fin S16x32x128x128.rank)
  bcast_S_S256x64 : S_.BroadcastsInDim S256x64 (![] : Fin 0 → Fin S256x64.rank)
  bcast_S_S64 : S_.BroadcastsInDim S64 (![] : Fin 0 → Fin S64.rank)
  bcast_S_S128x64 : S_.BroadcastsInDim S128x64 (![] : Fin 0 → Fin S128x64.rank)
  bcast_S_S64x1 : S_.BroadcastsInDim S64x1 (![] : Fin 0 → Fin S64x1.rank)
  bcast_S_S1 : S_.BroadcastsInDim S1 (![] : Fin 0 → Fin S1.rank)

variable [Facts]

def fn_part2 {F : FTy → Type} [FloatOps F] (main_arg12 : FVec F S128x64 .f32) (main_arg13 : FVec F S128x64 .f32) (main_arg14 : FVec F S64x1 .f32) (main_v2 : IVec S16x32x256 1) (main_v5 : IVec S16x32x128 1) (main_v8 : IVec S16x32x128x128 1) (main_v11 : IVec S256x64 1) (main_v14 : IVec S64 1) (main_v17 : IVec S128x64 1) (main_v20 : IVec S64 1) (main_v23 : IVec S128x64 1) (main_v26 : IVec S64 1) (main_v29 : IVec S64x1 1) (main_v32 : IVec S1 1) (main_v35 : IVec S256x64 1) : IVec S16x32x256 1 × IVec S16x32x128 1 × IVec S16x32x128x128 1 × IVec S256x64 1 × IVec S64 1 × IVec S128x64 1 × IVec S64 1 × IVec S128x64 1 × IVec S64 1 × IVec S64x1 1 × IVec S1 1 × IVec S256x64 1 × IVec S128x64 1 × IVec S128x64 1 × IVec S64x1 1 :=
  let main_v36 : FVec F S128x64 .f32 := Host.absf main_arg12
  let main_cst_11 : FVec F S_ .f32 := constant S_ .f32 0x7F800000#32
  let main_v37 : FVec F S128x64 .f32 := broadcastInDim S128x64 ![] bcast_S_S128x64 main_cst_11
  let main_v38 : IVec S128x64 1 := cmpf .olt main_v36 main_v37
  let main_v39 : FVec F S128x64 .f32 := Host.absf main_arg13
  let main_cst_12 : FVec F S_ .f32 := constant S_ .f32 0x7F800000#32
  let main_v40 : FVec F S128x64 .f32 := broadcastInDim S128x64 ![] bcast_S_S128x64 main_cst_12
  let main_v41 : IVec S128x64 1 := cmpf .olt main_v39 main_v40
  let main_v42 : FVec F S64x1 .f32 := Host.absf main_arg14
  let main_cst_13 : FVec F S_ .f32 := constant S_ .f32 0x7F800000#32
  let main_v43 : FVec F S64x1 .f32 := broadcastInDim S64x1 ![] bcast_S_S64x1 main_cst_13
  let main_v44 : IVec S64x1 1 := cmpf .olt main_v42 main_v43
  (main_v2, main_v5, main_v8, main_v11, main_v14, main_v17, main_v20, main_v23, main_v26, main_v29, main_v32, main_v35, main_v38, main_v41, main_v44)

def fn_part1 {F : FTy → Type} [FloatOps F] (main_arg6 : FVec F S64 .f32) (main_arg7 : FVec F S128x64 .f32) (main_arg8 : FVec F S64 .f32) (main_arg9 : FVec F S64x1 .f32) (main_arg10 : FVec F S1 .f32) (main_arg11 : FVec F S256x64 .f32) (main_arg12 : FVec F S128x64 .f32) (main_arg13 : FVec F S128x64 .f32) (main_arg14 : FVec F S64x1 .f32) (main_v2 : IVec S16x32x256 1) (main_v5 : IVec S16x32x128 1) (main_v8 : IVec S16x32x128x128 1) (main_v11 : IVec S256x64 1) (main_v14 : IVec S64 1) (main_v17 : IVec S128x64 1) : IVec S16x32x256 1 × IVec S16x32x128 1 × IVec S16x32x128x128 1 × IVec S256x64 1 × IVec S64 1 × IVec S128x64 1 × IVec S64 1 × IVec S128x64 1 × IVec S64 1 × IVec S64x1 1 × IVec S1 1 × IVec S256x64 1 × IVec S128x64 1 × IVec S128x64 1 × IVec S64x1 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S128x64 .f32 := Host.absf main_arg7
  let main_cst_6 : FVec F S_ .f32 := constant S_ .f32 0x7F800000#32
  let main_v22 : FVec F S128x64 .f32 := broadcastInDim S128x64 ![] bcast_S_S128x64 main_cst_6
  let main_v23 : IVec S128x64 1 := cmpf .olt main_v21 main_v22
  let main_v24 : FVec F S64 .f32 := Host.absf main_arg8
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  let main_v27 : FVec F S64x1 .f32 := Host.absf main_arg9
  let main_cst_8 : FVec F S_ .f32 := constant S_ .f32 0x7F800000#32
  let main_v28 : FVec F S64x1 .f32 := broadcastInDim S64x1 ![] bcast_S_S64x1 main_cst_8
  let main_v29 : IVec S64x1 1 := cmpf .olt main_v27 main_v28
  let main_v30 : FVec F S1 .f32 := Host.absf main_arg10
  let main_cst_9 : FVec F S_ .f32 := constant S_ .f32 0x7F800000#32
  let main_v31 : FVec F S1 .f32 := broadcastInDim S1 ![] bcast_S_S1 main_cst_9
  let main_v32 : IVec S1 1 := cmpf .olt main_v30 main_v31
  let main_v33 : FVec F S256x64 .f32 := Host.absf main_arg11
  let main_cst_10 : FVec F S_ .f32 := constant S_ .f32 0x7F800000#32
  let main_v34 : FVec F S256x64 .f32 := broadcastInDim S256x64 ![] bcast_S_S256x64 main_cst_10
  let main_v35 : IVec S256x64 1 := cmpf .olt main_v33 main_v34
  fn_part2 (F := F) main_arg12 main_arg13 main_arg14 main_v2 main_v5 main_v8 main_v11 main_v14 main_v17 main_v20 main_v23 main_v26 main_v29 main_v32 main_v35

def fn {F : FTy → Type} [FloatOps F] (main_arg0 : FVec F S16x32x256 .f32) (main_arg1 : FVec F S16x32x128 .f32) (main_arg2 : FVec F S16x32x128x128 .f32) (main_arg3 : FVec F S256x64 .f32) (main_arg4 : FVec F S64 .f32) (main_arg5 : FVec F S128x64 .f32) (main_arg6 : FVec F S64 .f32) (main_arg7 : FVec F S128x64 .f32) (main_arg8 : FVec F S64 .f32) (main_arg9 : FVec F S64x1 .f32) (main_arg10 : FVec F S1 .f32) (main_arg11 : FVec F S256x64 .f32) (main_arg12 : FVec F S128x64 .f32) (main_arg13 : FVec F S128x64 .f32) (main_arg14 : FVec F S64x1 .f32) : IVec S16x32x256 1 × IVec S16x32x128 1 × IVec S16x32x128x128 1 × IVec S256x64 1 × IVec S64 1 × IVec S128x64 1 × IVec S64 1 × IVec S128x64 1 × IVec S64 1 × IVec S64x1 1 × IVec S1 1 × IVec S256x64 1 × IVec S128x64 1 × IVec S128x64 1 × IVec S64x1 1 :=
  let main_v0 : FVec F S16x32x256 .f32 := Host.absf main_arg0
  let main_cst : FVec F S_ .f32 := constant S_ .f32 0x7F800000#32
  let main_v1 : FVec F S16x32x256 .f32 := broadcastInDim S16x32x256 ![] bcast_S_S16x32x256 main_cst
  let main_v2 : IVec S16x32x256 1 := cmpf .olt main_v0 main_v1
  let main_v3 : FVec F S16x32x128 .f32 := Host.absf main_arg1
  let main_cst_0 : FVec F S_ .f32 := constant S_ .f32 0x7F800000#32
  let main_v4 : FVec F S16x32x128 .f32 := broadcastInDim S16x32x128 ![] bcast_S_S16x32x128 main_cst_0
  let main_v5 : IVec S16x32x128 1 := cmpf .olt main_v3 main_v4
  let main_v6 : FVec F S16x32x128x128 .f32 := Host.absf main_arg2
  let main_cst_1 : FVec F S_ .f32 := constant S_ .f32 0x7F800000#32
  let main_v7 : FVec F S16x32x128x128 .f32 := broadcastInDim S16x32x128x128 ![] bcast_S_S16x32x128x128 main_cst_1
  let main_v8 : IVec S16x32x128x128 1 := cmpf .olt main_v6 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S128x64 .f32 := Host.absf main_arg5
  let main_cst_4 : FVec F S_ .f32 := constant S_ .f32 0x7F800000#32
  let main_v16 : FVec F S128x64 .f32 := broadcastInDim S128x64 ![] bcast_S_S128x64 main_cst_4
  let main_v17 : IVec S128x64 1 := cmpf .olt main_v15 main_v16
  fn_part1 (F := F) main_arg6 main_arg7 main_arg8 main_arg9 main_arg10 main_arg11 main_arg12 main_arg13 main_arg14 main_v2 main_v5 main_v8 main_v11 main_v14 main_v17
-- ==== Kernel.lean ====
abbrev S16x32x256 : Shape := ⟨3, ![16, 32, 256]⟩
abbrev S16x32x128 : Shape := ⟨3, ![16, 32, 128]⟩
abbrev S16x32x128x128 : Shape := ⟨4, ![16, 32, 128, 128]⟩
abbrev S256x64 : Shape := ⟨2, ![256, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S64x2 : Shape := ⟨2, ![64, 2]⟩
abbrev S640x64 : Shape := ⟨2, ![640, 64]⟩
abbrev S2x640 : Shape := ⟨2, ![2, 640]⟩
abbrev S4x4x4096 : Shape := ⟨3, ![4, 4, 4096]⟩
abbrev S4x32x256 : Shape := ⟨3, ![4, 32, 256]⟩
abbrev S4x32x128 : Shape := ⟨3, ![4, 32, 128]⟩
abbrev S4x32x128x128 : Shape := ⟨4, ![4, 32, 128, 128]⟩
abbrev S1x4x4096 : Shape := ⟨3, ![1, 4, 4096]⟩
abbrev S128x256 : Shape := ⟨2, ![128, 256]⟩
abbrev S4x1x128 : Shape := ⟨3, ![4, 1, 128]⟩
abbrev S4x31x128 : Shape := ⟨3, ![4, 31, 128]⟩
abbrev S128x128 : Shape := ⟨2, ![128, 128]⟩
abbrev S1x128 : Shape := ⟨2, ![1, 128]⟩
abbrev S2x128 : Shape := ⟨2, ![2, 128]⟩
abbrev S1x256 : Shape := ⟨2, ![1, 256]⟩
abbrev S16384x128 : Shape := ⟨2, ![16384, 128]⟩
abbrev S2x16384 : Shape := ⟨2, ![2, 16384]⟩
abbrev S1x16384 : Shape := ⟨2, ![1, 16384]⟩
abbrev S128 : Shape := ⟨1, ![128]⟩
abbrev S128x1 : Shape := ⟨2, ![128, 1]⟩
abbrev S16x4096 : Shape := ⟨2, ![16, 4096]⟩

abbrev nBuf : Space → Nat
  | .hbm => 20
  | .vmem => 9
  | .smem => 0
  | _ => 0

abbrev bufTy : (tb : Table) → Fin (tcTables nBuf tb) → BufTy
  | .hbm, ⟨0, _⟩ => ⟨S16x32x256, .f32⟩
  | .hbm, ⟨1, _⟩ => ⟨S16x32x128, .f32⟩
  | .hbm, ⟨2, _⟩ => ⟨S16x32x128x128, .f32⟩
  | .hbm, ⟨3, _⟩ => ⟨S256x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S256x64, .f32⟩
  | .hbm, ⟨12, _⟩ => ⟨S128x64, .f32⟩
  | .hbm, ⟨13, _⟩ => ⟨S128x64, .f32⟩
  | .hbm, ⟨14, _⟩ => ⟨S64x1, .f32⟩
  | .hbm, ⟨15, _⟩ => ⟨S64x2, .f32⟩
  | .hbm, ⟨16, _⟩ => ⟨S640x64, .f32⟩
  | .hbm, ⟨17, _⟩ => ⟨S2x640, .f32⟩
  | .hbm, ⟨18, _⟩ => ⟨S4x4x4096, .f32⟩
  | .hbm, ⟨19, _⟩ => ⟨S16x4096, .f32⟩
  | .local _ .vmem, ⟨0, _⟩ => ⟨S4x32x256, .f32⟩
  | .local _ .vmem, ⟨1, _⟩ => ⟨S4x32x256, .f32⟩
  | .local _ .vmem, ⟨2, _⟩ => ⟨S4x32x128, .f32⟩
  | .local _ .vmem, ⟨3, _⟩ => ⟨S4x32x128, .f32⟩
  | .local _ .vmem, ⟨4, _⟩ => ⟨S4x32x128x128, .f32⟩
  | .local _ .vmem, ⟨5, _⟩ => ⟨S4x32x128x128, .f32⟩
  | .local _ .vmem, ⟨6, _⟩ => ⟨S2x640, .f32⟩
  | .local _ .vmem, ⟨7, _⟩ => ⟨S1x4x4096, .f32⟩
  | .local _ .vmem, ⟨8, _⟩ => ⟨S1x4x4096, .f32⟩
  | _, _ => ⟨S16x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x32x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x32x256 : Shape := ⟨3, ![16, 32, 256]⟩
abbrev S16x32x128 : Shape := ⟨3, ![16, 32, 128]⟩
abbrev S16x32x128x128 : Shape := ⟨4, ![16, 32, 128, 128]⟩
abbrev S256x64 : Shape := ⟨2, ![256, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S_ : Shape := ⟨0, ![]⟩
abbrev S16x4096 : Shape := ⟨2, ![16, 4096]⟩
abbrev S16x1x128 : Shape := ⟨3, ![16, 1, 128]⟩
abbrev S16x128 : Shape := ⟨2, ![16, 128]⟩
abbrev S16x1x256 : Shape := ⟨3, ![16, 1, 256]⟩
abbrev S16x256 : Shape := ⟨2, ![16, 256]⟩
abbrev S16x1x128x128 : Shape := ⟨4, ![16, 1, 128, 128]⟩
abbrev S16x128x128 : Shape := ⟨3, ![16, 128, 128]⟩
abbrev S16x64 : Shape := ⟨2, ![16, 64]⟩
abbrev S1x64 : Shape := ⟨2, ![1, 64]⟩
abbrev S16x1x64 : Shape := ⟨3, ![16, 1, 64]⟩
abbrev S16x128x64 : Shape := ⟨3, ![16, 128, 64]⟩
abbrev S1x1x64 : Shape := ⟨3, ![1, 1, 64]⟩
abbrev S16x128x1 : Shape := ⟨3, ![16, 128, 1]⟩
abbrev S1x1x1 : Shape := ⟨3, ![1, 1, 1]⟩
abbrev S16 : Shape := ⟨1, ![16]⟩
abbrev S16x1 : Shape := ⟨2, ![16, 1]⟩

abbrev nBuf : Space → Nat
  | .hbm => 154
  | .vmem => 0
  | .smem => 0
  | _ => 0

abbrev hbmTy0_0 (i : Nat) : BufTy := match i % 128 with
  | 0 => ⟨S16x32x256, .f32⟩
  | 1 => ⟨S16x32x128, .f32⟩
  | 2 => ⟨S16x32x128x128, .f32⟩
  | 3 => ⟨S256x64, .f32⟩
  | 4 => ⟨S64, .f32⟩
  | 5 => ⟨S128x64, .f32⟩
  | 6 => ⟨S64, .f32⟩
  | 7 => ⟨S128x64, .f32⟩
  | 8 => ⟨S64, .f32⟩
  | 9 => ⟨S64x1, .f32⟩
  | 10 => ⟨S1, .f32⟩
  | 11 => ⟨S256x64, .f32⟩
  | 12 => ⟨S128x64, .f32⟩
  | 13 => ⟨S128x64, .f32⟩
  | 14 => ⟨S64x1, .f32⟩
  | 15 => ⟨S_, .f32⟩
  | 16 => ⟨S16x4096, .f32⟩
  | 17 => ⟨S_, .i32⟩
  | 18 => ⟨S_, .i32⟩
  | 19 => ⟨S16x32x128, .f32⟩
  | 20 => ⟨S16x32x256, .f32⟩
  | 21 => ⟨S16x32x128x128, .f32⟩
  | 22 => ⟨S256x64, .f32⟩
  | 23 => ⟨S64, .f32⟩
  | 24 => ⟨S128x64, .f32⟩
  | 25 => ⟨S64, .f32⟩
  | 26 => ⟨S128x64, .f32⟩
  | 27 => ⟨S64, .f32⟩
  | 28 => ⟨S64x1, .f32⟩
  | 29 => ⟨S1, .f32⟩
  | 30 => ⟨S256x64, .f32⟩
  | 31 => ⟨S128x64, .f32⟩
  | 32 => ⟨S128x64, .f32⟩
  | 33 => ⟨S64x1, .f32⟩
  | 34 => ⟨S_, .i32⟩
  | 35 => ⟨S_, .i32⟩
  | 36 => ⟨S16x4096, .f32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S16x1x128, .f32⟩
  | 54 => ⟨S16x128, .f32⟩
  | 55 => ⟨S_, .i32⟩
  | 56 => ⟨S_, .i1⟩
  | 57 => ⟨S_, .f32⟩
  | 58 => ⟨S16x128, .f32⟩
  | 59 => ⟨S16x128, .f32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S16x1x256, .f32⟩
  | 69 => ⟨S16x256, .f32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S16x1x128x128, .f32⟩
  | 80 => ⟨S16x128x128, .f32⟩
  | 81 => ⟨S16x64, .f32⟩
  | 82 => ⟨S1x64, .f32⟩
  | 83 => ⟨S16x64, .f32⟩
  | 84 => ⟨S16x64, .f32⟩
  | 85 => ⟨S16x1x64, .f32⟩
  | 86 => ⟨S16x64, .f32⟩
  | 87 => ⟨S1x64, .f32⟩
  | 88 => ⟨S16x64, .f32⟩
  | 89 => ⟨S16x64, .f32⟩
  | 90 => ⟨S16x1x64, .f32⟩
  | 91 => ⟨S16x128x64, .f32⟩
  | 92 => ⟨S1x1x64, .f32⟩
  | 93 => ⟨S16x128x64, .f32⟩
  | 94 => ⟨S16x128x64, .f32⟩
  | 95 => ⟨S16x1x64, .f32⟩
  | 96 => ⟨S16x128x64, .f32⟩
  | 97 => ⟨S16x128x64, .f32⟩
  | 98 => ⟨S16x128x1, .f32⟩
  | 99 => ⟨S1x1x1, .f32⟩
  | 100 => ⟨S16x128x1, .f32⟩
  | 101 => ⟨S16x128x1, .f32⟩
  | 102 => ⟨S16x128, .f32⟩
  | 103 => ⟨S_, .f32⟩
  | 104 => ⟨S16, .f32⟩
  | 105 => ⟨S_, .f32⟩
  | 106 => ⟨S16, .f32⟩
  | 107 => ⟨S16, .f32⟩
  | 108 => ⟨S16x1, .f32⟩
  | 109 => ⟨S16x128, .f32⟩
  | 110 => ⟨S16x128, .f32⟩
  | 111 => ⟨S16x128, .f32⟩
  | 112 => ⟨S_, .f32⟩
  | 113 => ⟨S16, .f32⟩
  | 114 => ⟨S16x1, .f32⟩
  | 115 => ⟨S16x128, .f32⟩
  | 116 => ⟨S16x128, .f32⟩
  | 117 => ⟨S16x128, .f32⟩
  | 118 => ⟨S16x64, .f32⟩
  | 119 => ⟨S16x64, .f32⟩
  | 120 => ⟨S16x64, .f32⟩
  | 121 => ⟨S16x64, .f32⟩
  | 122 => ⟨S16x64, .f32⟩
  | 123 => ⟨S16x1, .f32⟩
  | 124 => ⟨S16x1, .f32⟩
  | 125 => ⟨S16x1, .f32⟩
  | 126 => ⟨S_, .f32⟩
  | 127 => ⟨S16x1, .f32⟩
  | _ => ⟨S16x32x256, .f32⟩

abbrev hbmTy0_1 (i : Nat) : BufTy := match i % 128 with
  | 0 => ⟨S16x1, .f32⟩
  | 1 => ⟨S_, .f32⟩
  | 2 => ⟨S16x1, .f32⟩
  | 3 => ⟨S16x1, .f32⟩
  | 4 => ⟨S_, .i32⟩
  | 5 => ⟨S_, .i1⟩
  | 6 => ⟨S_, .f32⟩
  | 7 => ⟨S16x1, .f32⟩
  | 8 => ⟨S16x1, .f32⟩
  | 9 => ⟨S16x128, .f32⟩
  | 10 => ⟨S16x128, .f32⟩
  | 11 => ⟨S16x128, .f32⟩
  | 12 => ⟨S16x4096, .f32⟩
  | 13 => ⟨S16x4096, .f32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S16x4096, .f32⟩
  | 24 => ⟨S_, .i32⟩
  | 25 => ⟨S_, .i32⟩
  | _ => ⟨S16x32x256, .f32⟩

abbrev hbmTy (i : Nat) : BufTy := match i / 128 with
  | 0 => hbmTy0_0 i
  | 1 => hbmTy0_1 i
  | _ => ⟨S16x32x256, .f32⟩

abbrev bufTy : (tb : Table) → Fin (tcTables nBuf tb) → BufTy
  | .hbm, ⟨i, _⟩ => hbmTy i
  | _, _ => ⟨S16x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_c_0 : Ref sig .tc := ⟨.hbm, 18, rfl⟩
abbrev main_v1_0 : Ref sig .tc := ⟨.hbm, 19, rfl⟩
abbrev main_v1_1 : Ref sig .tc := ⟨.hbm, 20, rfl⟩
abbrev main_v1_2 : Ref sig .tc := ⟨.hbm, 21, rfl⟩
abbrev main_v1_3 : Ref sig .tc := ⟨.hbm, 22, rfl⟩
abbrev main_v1_4 : Ref sig .tc := ⟨.hbm, 23, rfl⟩
abbrev main_v1_5 : Ref sig .tc := ⟨.hbm, 24, rfl⟩
abbrev main_v1_6 : Ref sig .tc := ⟨.hbm, 25, rfl⟩
abbrev main_v1_7 : Ref sig .tc := ⟨.hbm, 26, rfl⟩
abbrev main_v1_8 : Ref sig .tc := ⟨.hbm, 27, rfl⟩
abbrev main_v1_9 : Ref sig .tc := ⟨.hbm, 28, rfl⟩
abbrev main_v1_10 : Ref sig .tc := ⟨.hbm, 29, rfl⟩
abbrev main_v1_11 : Ref sig .tc := ⟨.hbm, 30, rfl⟩
abbrev main_v1_12 : Ref sig .tc := ⟨.hbm, 31, rfl⟩
abbrev main_v1_13 : Ref sig .tc := ⟨.hbm, 32, rfl⟩
abbrev main_v1_14 : Ref sig .tc := ⟨.hbm, 33, rfl⟩
abbrev main_v1_15 : Ref sig .tc := ⟨.hbm, 34, rfl⟩
abbrev main_v1_16 : Ref sig .tc := ⟨.hbm, 35, rfl⟩
abbrev main_v1_17 : Ref sig .tc := ⟨.hbm, 36, rfl⟩
abbrev main_while0c_c_18 : Ref sig .tc := ⟨.hbm, 37, rfl⟩
abbrev main_while0c_v2 : Ref sig .tc := ⟨.hbm, 38, rfl⟩
abbrev main_while0b_c_18 : Ref sig .tc := ⟨.hbm, 39, rfl⟩
abbrev main_while0b_v2 : Ref sig .tc := ⟨.hbm, 40, rfl⟩
abbrev main_while0b_c_19 : Ref sig .tc := ⟨.hbm, 41, rfl⟩
abbrev main_while0b_v3 : Ref sig .tc := ⟨.hbm, 42, rfl⟩
abbrev main_while0b_c_20 : Ref sig .tc := ⟨.hbm, 43, rfl⟩
abbrev main_while0b_v4 : Ref sig .tc := ⟨.hbm, 44, rfl⟩
abbrev main_while0b_call0_c : Ref sig .tc := ⟨.hbm, 45, rfl⟩
abbrev main_while0b_call0_v0 : Ref sig .tc := ⟨.hbm, 46, rfl⟩
abbrev main_while0b_call0_v1 : Ref sig .tc := ⟨.hbm, 47, rfl⟩
abbrev main_while0b_call0_c_0 : Ref sig .tc := ⟨.hbm, 48, rfl⟩
abbrev main_while0b_call0_v2 : Ref sig .tc := ⟨.hbm, 49, rfl⟩
abbrev main_while0b_call0_v3 : Ref sig .tc := ⟨.hbm, 50, rfl⟩
abbrev main_while0b_call0_c_1 : Ref sig .tc := ⟨.hbm, 51, rfl⟩
abbrev main_while0b_call0_c_2 : Ref sig .tc := ⟨.hbm, 52, rfl⟩
abbrev main_while0b_call0_v4 : Ref sig .tc := ⟨.hbm, 53, rfl⟩
abbrev main_while0b_v5 : Ref sig .tc := ⟨.hbm, 54, rfl⟩
abbrev main_while0b_c_21 : Ref sig .tc := ⟨.hbm, 55, rfl⟩
abbrev main_while0b_v6 : Ref sig .tc := ⟨.hbm, 56, rfl⟩
abbrev main_while0b_cst_22 : Ref sig .tc := ⟨.hbm, 57, rfl⟩
abbrev main_while0b_v7 : Ref sig .tc := ⟨.hbm, 58, rfl⟩
abbrev main_while0b_v8 : Ref sig .tc := ⟨.hbm, 59, rfl⟩
abbrev main_while0b_call2_c : Ref sig .tc := ⟨.hbm, 60, rfl⟩
abbrev main_while0b_call2_v0 : Ref sig .tc := ⟨.hbm, 61, rfl⟩
abbrev main_while0b_call2_v1 : Ref sig .tc := ⟨.hbm, 62, rfl⟩
abbrev main_while0b_call2_c_0 : Ref sig .tc := ⟨.hbm, 63, rfl⟩
abbrev main_while0b_call2_v2 : Ref sig .tc := ⟨.hbm, 64, rfl⟩
abbrev main_while0b_call2_v3 : Ref sig .tc := ⟨.hbm, 65, rfl⟩
abbrev main_while0b_call2_c_1 : Ref sig .tc := ⟨.hbm, 66, rfl⟩
abbrev main_while0b_call2_c_2 : Ref sig .tc := ⟨.hbm, 67, rfl⟩
abbrev main_while0b_call2_v4 : Ref sig .tc := ⟨.hbm, 68, rfl⟩
abbrev main_while0b_v9 : Ref sig .tc := ⟨.hbm, 69, rfl⟩
abbrev main_while0b_call3_c : Ref sig .tc := ⟨.hbm, 70, rfl⟩
abbrev main_while0b_call3_v0 : Ref sig .tc := ⟨.hbm, 71, rfl⟩
abbrev main_while0b_call3_v1 : Ref sig .tc := ⟨.hbm, 72, rfl⟩
abbrev main_while0b_call3_c_0 : Ref sig .tc := ⟨.hbm, 73, rfl⟩
abbrev main_while0b_call3_v2 : Ref sig .tc := ⟨.hbm, 74, rfl⟩
abbrev main_while0b_call3_v3 : Ref sig .tc := ⟨.hbm, 75, rfl⟩
abbrev main_while0b_call3_c_1 : Ref sig .tc := ⟨.hbm, 76, rfl⟩
abbrev main_while0b_call3_c_2 : Ref sig .tc := ⟨.hbm, 77, rfl⟩
abbrev main_while0b_call3_c_3 : Ref sig .tc := ⟨.hbm, 78, rfl⟩
abbrev main_while0b_call3_v4 : Ref sig .tc := ⟨.hbm, 79, rfl⟩
abbrev main_while0b_v10 : Ref sig .tc := ⟨.hbm, 80, rfl⟩
abbrev main_while0b_v11 : Ref sig .tc := ⟨.hbm, 81, rfl⟩
abbrev main_while0b_v12 : Ref sig .tc := ⟨.hbm, 82, rfl⟩
abbrev main_while0b_v13 : Ref sig .tc := ⟨.hbm, 83, rfl⟩
abbrev main_while0b_v14 : Ref sig .tc := ⟨.hbm, 84, rfl⟩
abbrev main_while0b_v15 : Ref sig .tc := ⟨.hbm, 85, rfl⟩
abbrev main_while0b_v16 : Ref sig .tc := ⟨.hbm, 86, rfl⟩
abbrev main_while0b_v17 : Ref sig .tc := ⟨.hbm, 87, rfl⟩
abbrev main_while0b_v18 : Ref sig .tc := ⟨.hbm, 88, rfl⟩
abbrev main_while0b_v19 : Ref sig .tc := ⟨.hbm, 89, rfl⟩
abbrev main_while0b_v20 : Ref sig .tc := ⟨.hbm, 90, rfl⟩
abbrev main_while0b_v21 : Ref sig .tc := ⟨.hbm, 91, rfl⟩
abbrev main_while0b_v22 : Ref sig .tc := ⟨.hbm, 92, rfl⟩
abbrev main_while0b_v23 : Ref sig .tc := ⟨.hbm, 93, rfl⟩
abbrev main_while0b_v24 : Ref sig .tc := ⟨.hbm, 94, rfl⟩
abbrev main_while0b_v25 : Ref sig .tc := ⟨.hbm, 95, rfl⟩
abbrev main_while0b_v26 : Ref sig .tc := ⟨.hbm, 96, rfl⟩
abbrev main_while0b_v27 : Ref sig .tc := ⟨.hbm, 97, rfl⟩
abbrev main_while0b_v28 : Ref sig .tc := ⟨.hbm, 98, rfl⟩
abbrev main_while0b_v29 : Ref sig .tc := ⟨.hbm, 99, rfl⟩
abbrev main_while0b_v30 : Ref sig .tc := ⟨.hbm, 100, rfl⟩
abbrev main_while0b_v31 : Ref sig .tc := ⟨.hbm, 101, rfl⟩
abbrev main_while0b_v32 : Ref sig .tc := ⟨.hbm, 102, rfl⟩
abbrev main_while0b_cst_23 : Ref sig .tc := ⟨.hbm, 103, rfl⟩
abbrev main_while0b_v33 : Ref sig .tc := ⟨.hbm, 104, rfl⟩
abbrev main_while0b_cst_24 : Ref sig .tc := ⟨.hbm, 105, rfl⟩
abbrev main_while0b_v34 : Ref sig .tc := ⟨.hbm, 106, rfl⟩
abbrev main_while0b_v35 : Ref sig .tc := ⟨.hbm, 107, rfl⟩
abbrev main_while0b_v36 : Ref sig .tc := ⟨.hbm, 108, rfl⟩
abbrev main_while0b_v37 : Ref sig .tc := ⟨.hbm, 109, rfl⟩
abbrev main_while0b_v38 : Ref sig .tc := ⟨.hbm, 110, rfl⟩
abbrev main_while0b_v39 : Ref sig .tc := ⟨.hbm, 111, rfl⟩
abbrev main_while0b_cst_25 : Ref sig .tc := ⟨.hbm, 112, rfl⟩
abbrev main_while0b_v40 : Ref sig .tc := ⟨.hbm, 113, rfl⟩
abbrev main_while0b_v41 : Ref sig .tc := ⟨.hbm, 114, rfl⟩
abbrev main_while0b_v42 : Ref sig .tc := ⟨.hbm, 115, rfl⟩
abbrev main_while0b_v43 : Ref sig .tc := ⟨.hbm, 116, rfl⟩
abbrev main_while0b_v44 : Ref sig .tc := ⟨.hbm, 117, rfl⟩
abbrev main_while0b_v45 : Ref sig .tc := ⟨.hbm, 118, rfl⟩
abbrev main_while0b_v46 : Ref sig .tc := ⟨.hbm, 119, rfl⟩
abbrev main_while0b_v47 : Ref sig .tc := ⟨.hbm, 120, rfl⟩
abbrev main_while0b_v48 : Ref sig .tc := ⟨.hbm, 121, rfl⟩
abbrev main_while0b_v49 : Ref sig .tc := ⟨.hbm, 122, rfl⟩
abbrev main_while0b_v50 : Ref sig .tc := ⟨.hbm, 123, rfl⟩
abbrev main_while0b_v51 : Ref sig .tc := ⟨.hbm, 124, rfl⟩
abbrev main_while0b_v52 : Ref sig .tc := ⟨.hbm, 125, rfl⟩
abbrev main_while0b_cst_26 : Ref sig .tc := ⟨.hbm, 126, rfl⟩
abbrev main_while0b_v53 : Ref sig .tc := ⟨.hbm, 127, rfl⟩
abbrev main_while0b_v54 : Ref sig .tc := ⟨.hbm, 128, rfl⟩
abbrev main_while0b_cst_27 : Ref sig .tc := ⟨.hbm, 129, rfl⟩
abbrev main_while0b_v55 : Ref sig .tc := ⟨.hbm, 130, rfl⟩
abbrev main_while0b_v56 : Ref sig .tc := ⟨.hbm, 131, rfl⟩
abbrev main_while0b_c_28 : Ref sig .tc := ⟨.hbm, 132, rfl⟩
abbrev main_while0b_v57 : Ref sig .tc := ⟨.hbm, 133, rfl⟩
abbrev main_while0b_cst_29 : Ref sig .tc := ⟨.hbm, 134, rfl⟩
abbrev main_while0b_v58 : Ref sig .tc := ⟨.hbm, 135, rfl⟩
abbrev main_while0b_v59 : Ref sig .tc := ⟨.hbm, 136, rfl⟩
abbrev main_while0b_v60 : Ref sig .tc := ⟨.hbm, 137, rfl⟩
abbrev main_while0b_v61 : Ref sig .tc := ⟨.hbm, 138, rfl⟩
abbrev main_while0b_v62 : Ref sig .tc := ⟨.hbm, 139, rfl⟩
abbrev main_while0b_v63 : Ref sig .tc := ⟨.hbm, 140, rfl⟩
abbrev main_while0b_v64 : Ref sig .tc := ⟨.hbm, 141, rfl⟩
abbrev main_while0b_c_30 : Ref sig .tc := ⟨.hbm, 142, rfl⟩
abbrev main_while0b_v65 : Ref sig .tc := ⟨.hbm, 143, rfl⟩
abbrev main_while0b_c_31 : Ref sig .tc := ⟨.hbm, 144, rfl⟩
abbrev main_while0b_v66 : Ref sig .tc := ⟨.hbm, 145, rfl⟩
abbrev main_while0b_v67 : Ref sig .tc := ⟨.hbm, 146, rfl⟩
abbrev main_while0b_c_32 : Ref sig .tc := ⟨.hbm, 147, rfl⟩
abbrev main_while0b_v68 : Ref sig .tc := ⟨.hbm, 148, rfl⟩
abbrev main_while0b_v69 : Ref sig .tc := ⟨.hbm, 149, rfl⟩
abbrev main_while0b_c_33 : Ref sig .tc := ⟨.hbm, 150, rfl⟩
abbrev main_while0b_v70 : Ref sig .tc := ⟨.hbm, 151, rfl⟩
abbrev main_while0b_c_34 : Ref sig .tc := ⟨.hbm, 152, rfl⟩
abbrev main_while0b_v71 : Ref sig .tc := ⟨.hbm, 153, rfl⟩

abbrev nD : Nat := 1
abbrev τ : Topo := Topo.v7x

variable {F : FTy → Type} [FloatOps F]

abbrev main_while0_count : Scf.Loop 32 := ⟨0#32, 32#32, 1#32⟩
-- ==== Proof.My.Math.lean ====
module

public import Idealize.ShloMosaic.Lib.Pointwise

@[expose] public section

noncomputable section

namespace Cert.Turn

open Idealize.ShloMosaic

/-- The softmax of 128 real scores. -/
def sm (s : Fin 128 → ℝ) (c : Fin 128) : ℝ := Real.exp (s c) / ∑ x, Real.exp (s x)

/-- The logistic function at a real number. -/
def sg (z : ℝ) : ℝ := (1 + Real.exp (-z))⁻¹

/-- The turn an entry of the state belongs to. -/
def turn (i : Fin 4096) : Fin 32 := ⟨i.val / 128, by omega⟩

/-- The entry's place within its turn. -/
def lane (i : Fin 4096) : Fin 128 := ⟨i.val % 128, by omega⟩

/-- What a turn writes: its distribution, scaled by one minus its gate unless it is the first. -/
def fresh (D : Fin 32 → Fin 128 → ℝ) (G : Fin 32 → ℝ) (t : Fin 32) (c : Fin 128) : ℝ :=
  D t c * (1 - if t.val = 0 then 0 else G t)

/-- The state after `n` turns: an entry written so far is what its turn wrote, times the gates of the turns since. -/
def st (D : Fin 32 → Fin 128 → ℝ) (G : Fin 32 → ℝ) (n : ℕ) (i : Fin 4096) : ℝ :=
  if (turn i).val < n then
    fresh D G (turn i) (lane i) * ∏ j ∈ Finset.univ.filter (fun j : Fin 32 => turn i < j ∧ j.val < n), G j
  else 0

/-- The dialogue row a turn sees: the previous turn's, and zeros at the first turn. -/
def prev (d : Fin 32 → Fin 128 → ℝ) (t : Fin 32) (k : Fin 128) : ℝ :=
  if h : t.val < 1 then 0 else d ⟨t.val - 1, by omega⟩ k

/-- The distribution of each turn of one batch entry, of the folded score row `v`. -/
def dist (v : Fin 128 → ℝ) (x : Fin 32 → Fin 128 → Fin 128 → ℝ) (t : Fin 32) (c : Fin 128) : ℝ :=
  sm (fun c => ∑ h, v h * x t c h) c

/-- The gate of each turn of one batch entry, of the folded rows. -/
def gate (v q b : Fin 128 → ℝ) (a : Fin 256 → ℝ) (u : Fin 32 → Fin 256 → ℝ) (d : Fin 32 → Fin 128 → ℝ)
    (x : Fin 32 → Fin 128 → Fin 128 → ℝ) (t : Fin 32) : ℝ :=
  sg (((∑ k, a k * u t k) + ∑ k, b k * prev d t k) + ∑ c, dist v x t c * ∑ h, q h * x t c h)

/-- The real sum, read as an extended real. -/
theorem coe_sum {ι : Type*} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

/-- The largest of finitely many reals, at least one, taken from minus infinity, is a real. -/
theorem fold_max_real {ι : Type*} (s : Finset ι) (hs : s.Nonempty) (f : ι → ℝ) :
    ∃ M : ℝ, s.fold max (⊥ : EReal) (fun x => (f x : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM, EReal.coe_strictMono.monotone.map_max]⟩

/-- The word of minus infinity. -/
theorem ofBits_neg_inf : Ideal.ofBits .f32 4286578688#32 = (⊥ : EReal) := by
  simp [Ideal.ofBits, Ideal.ieee]

/-- The word of plus infinity. -/
theorem ofBits_inf : Ideal.ofBits .f32 2139095040#32 = (⊤ : EReal) := by
  simp [Ideal.ofBits, Ideal.ieee]

/-- The word of zero. -/
theorem ofBits_zero : Ideal.ofBits .f32 0#32 = (0 : EReal) := by
  simp [Ideal.ofBits, Ideal.ieee]

/-- The word of one. -/
theorem ofBits_one : Ideal.ofBits .f32 1065353216#32 = (1 : EReal) := by
  simp [Ideal.ofBits, Ideal.ieee]
  rw [← EReal.coe_mul]
  norm_num

/-- The exponentials' sum is positive. -/
theorem sum_exp_pos (s : Fin 128 → ℝ) : 0 < ∑ x, Real.exp (s x) :=
  Finset.sum_pos (fun _ _ => Real.exp_pos _) Finset.univ_nonempty

/-- The softmax does not see a number added to every score. -/
theorem sm_shift (s : Fin 128 → ℝ) (K : ℝ) (c : Fin 128) : sm (fun x => s x + K) c = sm s c := by
  unfold sm
  simp only [Real.exp_add]
  rw [← Finset.sum_mul, mul_div_mul_right _ _ (Real.exp_pos K).ne']

/-- The softmax taken after subtracting the largest score, on extended reals, at real scores. -/
theorem soft_coe (s : Fin 128 → ℝ) (M : ℝ) (c : Fin 128) :
    Ideal.div (Ideal.exp ((s c : EReal) - (M : EReal))) (∑ x, Ideal.exp ((s x : EReal) - (M : EReal)))
      = ((sm s c : ℝ) : EReal) := by
  simp only [← EReal.coe_sub, Ideal.exp_coe, coe_sum]
  rw [Ideal.div_coe (sum_exp_pos fun x => s x - M).ne', ← EReal.coe_mul, ← sm_shift s (-M) c]
  congr 1
  unfold sm
  simp only [sub_eq_add_neg, one_mul, div_eq_mul_inv]

/-- The same with the largest score written as the fold that takes it. -/
theorem soft_fold (s : Fin 128 → ℝ) (c : Fin 128) :
    Ideal.div (Ideal.exp ((s c : EReal) - Finset.univ.fold max (⊥ : EReal) (fun x => (s x : EReal))))
        (∑ x, Ideal.exp ((s x : EReal) - Finset.univ.fold max (⊥ : EReal) (fun x => (s x : EReal))))
      = ((sm s c : ℝ) : EReal) := by
  obtain ⟨M, hM⟩ := fold_max_real Finset.univ Finset.univ_nonempty s
  rw [hM]
  exact soft_coe s M c

/-- The logistic function is positive. -/
theorem sg_pos (z : ℝ) : 0 < sg z := inv_pos.mpr (by positivity)

/-- One over one plus the exponential of the negated number, on extended reals. -/
theorem sg_coe (z : ℝ) : Ideal.div (1 : EReal) ((1 : EReal) + Ideal.exp (-(z : EReal))) = ((sg z : ℝ) : EReal) := by
  have h : (1 : EReal) = ((1 : ℝ) : EReal) := EReal.coe_one.symm
  rw [h, ← EReal.coe_neg, Ideal.exp_coe, ← EReal.coe_add, Ideal.div_coe (by positivity), ← EReal.coe_mul]
  simp [sg]

/-- The logarithm of a gate is a real. -/
theorem log_sg (z : ℝ) : Ideal.log ((sg z : ℝ) : EReal) = ((Real.log (sg z) : ℝ) : EReal) := by
  rw [Ideal.log_coe, if_neg (not_le.mpr (sg_pos z))]

/-- The exponential of a sum of logarithms over the rows of the same batch entry after row `r` is the product of the
    gates of the turns after its turn. -/
theorem exp_sum_log (G : Fin 4 → Fin 32 → ℝ) (hG : ∀ p t, 0 < G p t) (p : Fin 4) (t : Fin 32) :
    Real.exp (∑ x : Fin 128, (if p.val * 32 + t.val < x.val ∧ x.val / 32 = p.val then (1 : ℝ) else 0)
        * Real.log (G ⟨x.val / 32, by omega⟩ ⟨x.val % 32, by omega⟩))
      = ∏ j ∈ Finset.univ.filter (fun j : Fin 32 => t < j), G p j := by
  simp only [ite_mul, one_mul, zero_mul]
  rw [← Finset.sum_filter, Real.exp_sum]
  refine Finset.prod_bij (fun x _ => (⟨x.val % 32, by omega⟩ : Fin 32)) ?_ ?_ ?_ ?_
  · intro x hx
    simp only [Finset.mem_filter, Finset.mem_univ, true_and] at hx ⊢
    show t.val < x.val % 32
    omega
  · intro x hx y hy h
    simp only [Finset.mem_filter, Finset.mem_univ, true_and, Fin.mk.injEq] at hx hy h
    exact Fin.ext (by omega)
  · intro j hj
    simp only [Finset.mem_filter, Finset.mem_univ, true_and] at hj
    have hj' : t.val < j.val := hj
    refine ⟨⟨p.val * 32 + j.val, by omega⟩, ?_, Fin.ext ?_⟩
    · simp only [Finset.mem_filter, Finset.mem_univ, true_and]
      omega
    · show (p.val * 32 + j.val) % 32 = j.val
      omega
  · intro x hx
    simp only [Finset.mem_filter, Finset.mem_univ, true_and] at hx
    rw [Real.exp_log (hG _ _)]
    congr 1
    exact Fin.ext hx.2

/-- Before the first turn the state is zero. -/
theorem st_zero (D : Fin 32 → Fin 128 → ℝ) (G : Fin 32 → ℝ) (i : Fin 4096) : st D G 0 i = 0 := by
  simp [st]

/-- One turn: its own entries are what it writes, every other entry is scaled by its gate. -/
theorem st_succ (D : Fin 32 → Fin 128 → ℝ) (G : Fin 32 → ℝ) (j : Fin 32) (i : Fin 4096) :
    st D G (j.val + 1) i = if turn i = j then fresh D G j (lane i) else st D G j.val i * G j := by
  unfold st
  by_cases h : turn i = j
  · rw [if_pos (by rw [h]; omega), if_pos h, h, Finset.prod_eq_one, mul_one]
    intro x hx
    simp only [Finset.mem_filter, Finset.mem_univ, true_and, Fin.lt_def] at hx
    omega
  · rw [if_neg h]
    have hne : (turn i).val ≠ j.val := fun e => h (Fin.ext e)
    by_cases hl : (turn i).val < j.val
    · rw [if_pos (by omega), if_pos hl, mul_assoc]
      congr 1
      have e : Finset.univ.filter (fun x : Fin 32 => turn i < x ∧ x.val < j.val + 1)
          = insert j (Finset.univ.filter (fun x : Fin 32 => turn i < x ∧ x.val < j.val)) := by
        ext x
        simp only [Finset.mem_filter, Finset.mem_univ, true_and, Finset.mem_insert, Fin.lt_def, Fin.ext_iff]
        omega
      rw [e, Finset.prod_insert (by simp), mul_comm]
    · rw [if_neg (by omega), if_neg hl, zero_mul]

/-- After the last turn every entry is what its turn wrote times the product of the later turns' gates. -/
theorem st_last (D : Fin 32 → Fin 128 → ℝ) (G : Fin 32 → ℝ) (i : Fin 4096) :
    st D G 32 i = fresh D G (turn i) (lane i) * ∏ j ∈ Finset.univ.filter (fun j : Fin 32 => turn i < j), G j := by
  unfold st
  rw [if_pos (turn i).isLt]
  congr 2
  ext x
  simp

/-- The scores with the attention weights folded into the embedding's, up to a number that is the same for every
    candidate. -/
theorem score_eq (X : Fin 128 → ℝ) (ru rc be Wa : Fin 64 → ℝ) (We : Fin 128 → Fin 64 → ℝ) (ba : ℝ) :
    (∑ m, ((ru m + rc m) + ((∑ h, X h * We h m) + be m)) * Wa m) + ba
      = (∑ h, (∑ m, Wa m * We h m) * X h) + ((∑ m, (ru m + rc m + be m) * Wa m) + ba) := by
  have e : ∑ h, (∑ m, Wa m * We h m) * X h = ∑ m, (∑ h, X h * We h m) * Wa m := by
    simp only [Finset.sum_mul]
    rw [Finset.sum_comm]
    exact Finset.sum_congr rfl fun _ _ => Finset.sum_congr rfl fun _ _ => by ring
  rw [e, ← add_assoc, ← Finset.sum_add_distrib]
  exact congrArg (· + ba) (Finset.sum_congr rfl fun _ _ => by ring)

/-- A row of products folded through one matrix column: the two orders of summing agree. -/
theorem fold_row {K : ℕ} (u : Fin K → ℝ) (U : Fin K → Fin 64 → ℝ) (w : Fin 64 → ℝ) :
    ∑ k, (∑ m, w m * U k m) * u k = ∑ m, (∑ k, u k * U k m) * w m := by
  simp only [Finset.sum_mul]
  rw [Finset.sum_comm]
  exact Finset.sum_congr rfl fun _ _ => Finset.sum_congr rfl fun _ _ => by ring

/-- The gate's argument with the gate weights folded into the three projections. -/
theorem logit_eq (u : Fin 256 → ℝ) (c D : Fin 128 → ℝ) (X : Fin 128 → Fin 128 → ℝ) (U : Fin 256 → Fin 64 → ℝ)
    (C O : Fin 128 → Fin 64 → ℝ) (w : Fin 64 → ℝ) :
    ((∑ k, (∑ m, w m * U k m) * u k) + ∑ k, (∑ m, w m * C k m) * c k) + ∑ x, D x * ∑ h, (∑ m, w m * O h m) * X x h
      = ∑ m, (((∑ k, c k * C k m) + ∑ k, u k * U k m) + ∑ h, (∑ x, D x * X x h) * O h m) * w m := by
  have e : ∑ x, D x * ∑ h, (∑ m, w m * O h m) * X x h = ∑ m, (∑ h, (∑ x, D x * X x h) * O h m) * w m := by
    rw [← fold_row (fun h => ∑ x, D x * X x h) O w]
    simp only [Finset.mul_sum]
    rw [Finset.sum_comm]
    exact Finset.sum_congr rfl fun _ _ => Finset.sum_congr rfl fun _ _ => by ring
  rw [e, fold_row u U w, fold_row c C w, ← Finset.sum_add_distrib, ← Finset.sum_add_distrib]
  exact Finset.sum_congr rfl fun _ _ => by ring

/-- The fifteen arguments, at real entries. -/
structure Data where
  U : Fin 16 → Fin 32 → Fin 256 → ℝ
  Dg : Fin 16 → Fin 32 → Fin 128 → ℝ
  X : Fin 16 → Fin 32 → Fin 128 → Fin 128 → ℝ
  Wu : Fin 256 → Fin 64 → ℝ
  bu : Fin 64 → ℝ
  Wc : Fin 128 → Fin 64 → ℝ
  bc : Fin 64 → ℝ
  We : Fin 128 → Fin 64 → ℝ
  be : Fin 64 → ℝ
  Wa : Fin 64 → ℝ
  ba : ℝ
  Fu : Fin 256 → Fin 64 → ℝ
  Fc : Fin 128 → Fin 64 → ℝ
  Fo : Fin 128 → Fin 64 → ℝ
  Wf : Fin 64 → ℝ

namespace Data

variable (R : Data)

/-- The embedding's score row: its weights folded with the attention's. -/
def v (h : Fin 128) : ℝ := ∑ m, R.Wa m * R.We h m
/-- The attended embedding's gate row. -/
def q (h : Fin 128) : ℝ := ∑ m, R.Wf m * R.Fo h m
/-- The utterance's gate row. -/
def a (k : Fin 256) : ℝ := ∑ m, R.Wf m * R.Fu k m
/-- The dialogue's gate row. -/
def b (k : Fin 128) : ℝ := ∑ m, R.Wf m * R.Fc k m

/-- The distributions of one batch entry. -/
def D (p : Fin 16) : Fin 32 → Fin 128 → ℝ := dist R.v (R.X p)
/-- The gates of one batch entry. -/
def G (p : Fin 16) : Fin 32 → ℝ := gate R.v R.q R.b R.a (R.U p) (R.Dg p) (R.X p)
/-- The state of one batch entry after `n` turns. -/
def S (n : ℕ) (p : Fin 16) (i : Fin 4096) : ℝ := st (R.D p) (R.G p) n i

end Data

end Cert.Turn

end
-- ==== Proof.My.KernelBlock.lean ====
module

public import proofs.«01_k».proof.Proof.Gen.KernelIdeal.Frame
public import proofs.«01_k».proof.Proof.My.Math

@[expose] public section

set_option maxRecDepth 16384

noncomputable section

namespace Cert.KernelIdeal.My

open Idealize.ShloMosaic Cert.KernelIdeal Cert.KernelIdeal.Gen Cert.Turn

/-! ## The integer masks -/

/-- The mask's floor division of a row number by 32, in the words the kernel computes it with. -/
theorem floor_word (r : Fin 128) :
    Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 r.val) 32#32) 0#32))
        (IntOp.subi (IntOp.divsi ArithUnit.vector (BitVec.ofNat 32 r.val) 32#32) 1#32)
        (IntOp.divsi ArithUnit.vector (BitVec.ofNat 32 r.val) 32#32)
      = BitVec.ofNat 32 (r.val / 32) := by
  revert r
  decide +kernel

/-- The mask word: one where the column is a later row of the same batch entry, zero elsewhere. -/
theorem mask_word (r x : Fin 128) :
    (BitVec.setWidth 32
        (IntOp.andi (IntOp.cmpi CmpIPredicate.sgt (BitVec.ofNat 32 x.val) (BitVec.ofNat 32 r.val))
          (IntOp.cmpi CmpIPredicate.eq (BitVec.ofNat 32 (x.val / 32)) (BitVec.ofNat 32 (r.val / 32))))).toInt
      = if r.val < x.val ∧ x.val / 32 = r.val / 32 then 1 else 0 := by
  revert r x
  decide +kernel

/-- The first-turn test of a row number, in the words the kernel computes it with. -/
theorem first_word (r : Fin 128) :
    (IntOp.cmpi CmpIPredicate.eq
      (Scalar.select
        (IntOp.andi
          (IntOp.xori
            (IntOp.cmpi CmpIPredicate.slt
              (IntOp.remsi ArithUnit.vector (BitVec.ofNat 32 r.val)
                (Scalar.select (Scalar.cmpi CmpIPredicate.eq 32#32 0#32) 1#32 32#32)) 0#32)
            (Scalar.cmpi CmpIPredicate.slt (Scalar.select (Scalar.cmpi CmpIPredicate.eq 32#32 0#32) 1#32 32#32) 0#32))
          (IntOp.cmpi CmpIPredicate.ne
            (IntOp.remsi ArithUnit.vector (BitVec.ofNat 32 r.val)
              (Scalar.select (Scalar.cmpi CmpIPredicate.eq 32#32 0#32) 1#32 32#32)) 0#32))
        (IntOp.addi
          (IntOp.remsi ArithUnit.vector (BitVec.ofNat 32 r.val)
            (Scalar.select (Scalar.cmpi CmpIPredicate.eq 32#32 0#32) 1#32 32#32))
          (Scalar.select (Scalar.cmpi CmpIPredicate.eq 32#32 0#32) 1#32 32#32))
        (IntOp.remsi ArithUnit.vector (BitVec.ofNat 32 r.val)
          (Scalar.select (Scalar.cmpi CmpIPredicate.eq 32#32 0#32) 1#32 32#32)))
      0#32)
      = if r.val % 32 = 0 then 1#1 else 0#1 := by
  revert r
  decide +kernel

/-! ## The block -/

variable (x0 : Vec Ideal S4x32x256 .f32) (x1 : Vec Ideal S4x32x128 .f32) (x2 : Vec Ideal S4x32x128x128 .f32)
  (x3 : Vec Ideal S2x640 .f32)
variable (u : Fin 4 → Fin 32 → Fin 256 → ℝ) (d : Fin 4 → Fin 32 → Fin 128 → ℝ)
  (x : Fin 4 → Fin 32 → Fin 128 → Fin 128 → ℝ) (w : Fin 2 → Fin 640 → ℝ)

/-- The block's score row. -/
def rv (h : Fin 128) : ℝ := w 0 ⟨h.val, by omega⟩
/-- The block's gate row for the attended embedding. -/
def rq (h : Fin 128) : ℝ := w 1 ⟨128 + h.val, by omega⟩
/-- The block's gate row for the utterance. -/
def ra (h : Fin 256) : ℝ := w 1 ⟨256 + h.val, by omega⟩
/-- The block's gate row for the dialogue. -/
def rb (h : Fin 128) : ℝ := w 1 ⟨512 + h.val, by omega⟩

/-- The batch entry of a row of the flattened block. -/
def rp (r : Fin 128) : Fin 4 := ⟨r.val / 32, by omega⟩
/-- The turn of a row of the flattened block. -/
def rt (r : Fin 128) : Fin 32 := ⟨r.val % 32, by omega⟩

/-- The gate's argument at a row. -/
def rz (r : Fin 128) : ℝ :=
  ((∑ k, ra w k * u (rp r) (rt r) k) + ∑ k, rb w k * prev (d (rp r)) (rt r) k)
    + ∑ c, dist (rv w) (x (rp r)) (rt r) c * ∑ h, rq w h * x (rp r) (rt r) c h

section
variable (h0 : ∀ p t k, x0 (ix3 p t k) = ((u p t k : ℝ) : EReal)) (h1 : ∀ p t k, x1 (ix3 p t k) = ((d p t k : ℝ) : EReal))
  (h2 : ∀ p t c k, x2 (ix4 p t c k) = ((x p t c k : ℝ) : EReal)) (h3 : ∀ i k, x3 (ix2 i k) = ((w i k : ℝ) : EReal))

include h2 h3 in
/-- The second product row at a candidate. -/
theorem q_at (r c : Fin 128) : k0_pay13 (F := Ideal) x0 x1 x2 x3 (ix2 r c)
    = ((∑ h, rq w h * x (rp r) (rt r) c h : ℝ) : EReal) := by
  pointwise [k0_pay13, k0_pay2, k0_pay1]
  have e1 : ∀ h, (⟨(r.val * 128 + c.val) / 4096, h⟩ : Fin 4) = rp r := fun h => Fin.ext (by show (r.val * 128 + c.val) / 4096 = r.val / 32; omega)
  have e2 : ∀ h, (⟨(r.val * 128 + c.val) / 128 % 32, h⟩ : Fin 32) = rt r := fun h => Fin.ext (by show (r.val * 128 + c.val) / 128 % 32 = r.val % 32; omega)
  simp only [e1, e2, h2, h3, ← EReal.coe_mul, coe_sum]
  rfl

include h2 h3 in
/-- The distribution at a candidate. -/
theorem dist_at (r c : Fin 128) : k0_pay14 (F := Ideal) x0 x1 x2 x3 (ix2 r c)
    = ((dist (rv w) (x (rp r)) (rt r) c : ℝ) : EReal) := by
  pointwise [k0_pay14, k0_pay3, k0_pay1]
  have e1 : ∀ (c : Fin 128) h, (⟨(r.val * 128 + c.val) / 4096, h⟩ : Fin 4) = rp r :=
    fun c h => Fin.ext (by show (r.val * 128 + c.val) / 4096 = r.val / 32; omega)
  have e2 : ∀ (c : Fin 128) h, (⟨(r.val * 128 + c.val) / 128 % 32, h⟩ : Fin 32) = rt r :=
    fun c h => Fin.ext (by show (r.val * 128 + c.val) / 128 % 32 = r.val % 32; omega)
  simp only [e1, e2, h2, h3, ← EReal.coe_mul, coe_sum, ofBits_neg_inf]
  exact soft_fold _ c

include h0 h1 h3 in
/-- The two projections' share of the gate's argument at a row. -/
theorem row_at (r : Fin 128) : k0_pay15 (F := Ideal) x0 x1 x2 x3 (ix2 0 r)
    = (((∑ k, ra w k * u (rp r) (rt r) k) + ∑ k, rb w k * prev (d (rp r)) (rt r) k : ℝ) : EReal) := by
  pointwise [k0_pay15, k0_pay4]
  have e : ∀ k : Fin 128, (if h : r.val % 32 < 1 then (0 : EReal) else x1 (ix3 ⟨r.val / 32, by omega⟩ ⟨r.val % 32 - 1, by omega⟩ k))
      = ((prev (d (rp r)) (rt r) k : ℝ) : EReal) := by
    intro k
    unfold prev
    by_cases h : r.val % 32 < 1
    · rw [dif_pos h, dif_pos (show (rt r).val < 1 from h)]
      rfl
    · rw [dif_neg h, dif_neg (show ¬(rt r).val < 1 from h), h1]
      rfl
  simp only [e, h0, h3, ← EReal.coe_mul, coe_sum, ← EReal.coe_add]
  rfl

include h0 h1 h2 h3 in
/-- The logarithm of the gate at a row. -/
theorem log_at (r : Fin 128) :
    k0_pay7 (F := Ideal) (k0_pay13 x0 x1 x2 x3) (k0_pay14 x0 x1 x2 x3) (k0_pay15 x0 x1 x2 x3) (ix2 r 0)
      = ((Real.log (sg (rz u d x w r)) : ℝ) : EReal) := by
  pointwise [k0_pay7, k0_pay5]
  simp only [q_at x0 x1 x2 x3 x w h2 h3, dist_at x0 x1 x2 x3 x w h2 h3, row_at x0 x1 x2 x3 u d w h0 h1 h3,
    ← EReal.coe_mul, coe_sum, ← EReal.coe_add, Ideal.logistic_coe]
  exact log_sg _

include h0 h1 h2 h3 in
/-- The gate at a row, zero at a first turn. -/
theorem eff_at (r : Fin 128) :
    k0_pay6 (F := Ideal) (k0_pay13 x0 x1 x2 x3) (k0_pay14 x0 x1 x2 x3) (k0_pay15 x0 x1 x2 x3) (ix2 r 0)
      = (((if r.val % 32 = 0 then 0 else sg (rz u d x w r)) : ℝ) : EReal) := by
  pointwise [k0_pay6, k0_pay5]
  simp only [q_at x0 x1 x2 x3 x w h2 h3, dist_at x0 x1 x2 x3 x w h2 h3, row_at x0 x1 x2 x3 u d w h0 h1 h3,
    ← EReal.coe_mul, coe_sum, ← EReal.coe_add, Ideal.logistic_coe]
  rw [first_word r]
  by_cases h : r.val % 32 = 0
  · rw [if_pos h, if_pos h]
    rfl
  · rw [if_neg h, if_neg h]
    rfl

include h0 h1 h2 h3 in
/-- The block's output: the state of its batch entries after the last turn. -/
theorem out_at (p : Fin 4) (n : Fin 4096) : out0_4 (F := Ideal) x0 x1 x2 x3 (ix3 0 p n)
    = ((st (dist (rv w) (x p)) (gate (rv w) (rq w) (rb w) (ra w) (u p) (d p) (x p)) 32 n : ℝ) : EReal) := by
  unfold out0_4
  rw [View.canon_unit_zero (by decide)]
  pointwise [k0_pay12, k0_pay8, k0_pay9, k0_pay10, k0_pay11]
  have hr : (p.val * 32 + n.val / 128) % 32 = n.val / 128 := by omega
  have ep : ∀ h, rp ⟨p.val * 32 + n.val / 128, h⟩ = p := fun h =>
    Fin.ext (by show (p.val * 32 + n.val / 128) / 32 = p.val; omega)
  have et : ∀ h, rt ⟨p.val * 32 + n.val / 128, h⟩ = turn n := fun h =>
    Fin.ext (by show (p.val * 32 + n.val / 128) % 32 = n.val / 128; omega)
  have em := fun k : Fin 128 => mask_word ⟨p.val * 32 + n.val / 128, by omega⟩ k
  have ef := floor_word ⟨p.val * 32 + n.val / 128, by omega⟩
  simp only [] at em ef
  simp only [floor_word, ef, dist_at x0 x1 x2 x3 x w h2 h3, log_at x0 x1 x2 x3 u d x w h0 h1 h2 h3,
    eff_at x0 x1 x2 x3 u d x w h0 h1 h2 h3, ep, et]
  have es : ∀ b : BitVec 32, (FloatOps.sitofp FTy.f32 b : Ideal .f32) = ((b.toInt : ℝ) : EReal) := fun _ => rfl
  have ec : ∀ k : Fin 128, ((((if p.val * 32 + n.val / 128 < k.val ∧ k.val / 32 = (p.val * 32 + n.val / 128) / 32
      then 1 else 0 : ℤ) : ℝ)) : ℝ) = if p.val * 32 + (turn n).val < k.val ∧ k.val / 32 = p.val then 1 else 0 := by
    intro k
    have h1 : (p.val * 32 + n.val / 128) / 32 = p.val := by omega
    rw [h1]
    show (((if p.val * 32 + n.val / 128 < k.val ∧ k.val / 32 = p.val then 1 else 0 : ℤ) : ℝ))
      = if p.val * 32 + n.val / 128 < k.val ∧ k.val / 32 = p.val then 1 else 0
    split <;> simp
  simp only [es, em, ec, ← EReal.coe_mul, coe_sum, Ideal.exp_coe]
  rw [← EReal.coe_one, ← EReal.coe_sub, ← EReal.coe_mul, ← EReal.coe_mul, EReal.coe_eq_coe_iff, st_last]
  have ee := exp_sum_log (fun q t => gate (rv w) (rq w) (rb w) (ra w) (u q) (d q) (x q) t) (fun _ _ => sg_pos _) p (turn n)
  have eg : (if (p.val * 32 + n.val / 128) % 32 = 0 then (0 : ℝ)
      else sg (rz u d x w ⟨p.val * 32 + n.val / 128, by omega⟩))
      = if (turn n).val = 0 then 0 else gate (rv w) (rq w) (rb w) (ra w) (u p) (d p) (x p) (turn n) := by
    rw [hr]
    show (if n.val / 128 = 0 then (0 : ℝ) else _) = if n.val / 128 = 0 then 0 else _
    unfold rz gate
    rw [ep, et]
  rw [eg, ← mul_assoc]
  exact congrArg (fresh _ _ _ _ * ·) ee

end

end Cert.KernelIdeal.My

end
-- ==== Proof.My.KernelRun.lean ====
module

public import proofs.«01_k».proof.Proof.My.KernelBlock
public import Idealize.ShloMosaic.Lib.Pipeline.ValueKit.Point
public import Idealize.ShloMosaic.Lib.StableHlo.ReadAt

@[expose] public section

set_option maxRecDepth 16384

noncomputable section

namespace Cert.KernelIdeal.My

open Idealize.ShloMosaic Idealize.SL.Sem Cert.KernelIdeal Cert.KernelIdeal.Gen Cert.Turn

variable (m : (ℓ : Loc nD τ sig) → Buf (Elt Ideal) ℓ) (ρ : Dev nD → PrngReg)

/-- A device's argument arrays hold the reals of `R` (the arguments the kernel reads). -/
structure Held (c : Dev nD) (R : Data) : Prop where
  h0 : ∀ p t k, (m (c.tc.loc main_arg0) : Vec Ideal S16x32x256 .f32) (ix3 p t k) = ((R.U p t k : ℝ) : EReal)
  h1 : ∀ p t k, (m (c.tc.loc main_arg1) : Vec Ideal S16x32x128 .f32) (ix3 p t k) = ((R.Dg p t k : ℝ) : EReal)
  h2 : ∀ p t k l, (m (c.tc.loc main_arg2) : Vec Ideal S16x32x128x128 .f32) (ix4 p t k l) = ((R.X p t k l : ℝ) : EReal)
  h7 : ∀ k j, (m (c.tc.loc main_arg7) : Vec Ideal S128x64 .f32) (ix2 k j) = ((R.We k j : ℝ) : EReal)
  h9 : ∀ j l, (m (c.tc.loc main_arg9) : Vec Ideal S64x1 .f32) (ix2 j l) = ((R.Wa j : ℝ) : EReal)
  h11 : ∀ k j, (m (c.tc.loc main_arg11) : Vec Ideal S256x64 .f32) (ix2 k j) = ((R.Fu k j : ℝ) : EReal)
  h12 : ∀ k j, (m (c.tc.loc main_arg12) : Vec Ideal S128x64 .f32) (ix2 k j) = ((R.Fc k j : ℝ) : EReal)
  h13 : ∀ k j, (m (c.tc.loc main_arg13) : Vec Ideal S128x64 .f32) (ix2 k j) = ((R.Fo k j : ℝ) : EReal)
  h14 : ∀ j l, (m (c.tc.loc main_arg14) : Vec Ideal S64x1 .f32) (ix2 j l) = ((R.Wf j : ℝ) : EReal)

/-- The windows' block indices at every grid point. -/
theorem idx : ∀ t : Fin grid0.N, win0_0.index t = ![t.val, 0, 0] ∧ win0_1.index t = ![t.val, 0, 0]
    ∧ win0_2.index t = ![t.val, 0, 0, 0] ∧ win0_3.index t = ![0, 0] ∧ win0_4.index t = ![t.val, 0, 0] := by
  decide +kernel

/-- The batch entry of a row of a grid point's block. -/
def bi (t : Fin cfg0.N) (p : Fin 4) : Fin 16 := ⟨t.val * 4 + p.val, by have : t.val < 4 := lt_of_lt_of_eq t.isLt N_0; omega⟩

/-- The utterance block at a grid point. -/
theorem iblk0 (c : Dev nD) (t : Fin cfg0.N) (p : Fin 4) (s : Fin 32) (k : Fin 256) :
    iblk m c 0 t (ix3 p s k) = (m (c.tc.loc main_arg0) : Vec Ideal S16x32x256 .f32) (ix3 (bi t p) s k) := by
  rw [← V_main_arg0 m c]
  blk_ext [iblk, idx t, bi]

/-- The dialogue block at a grid point. -/
theorem iblk1 (c : Dev nD) (t : Fin cfg0.N) (p : Fin 4) (s : Fin 32) (k : Fin 128) :
    iblk m c 1 t (ix3 p s k) = (m (c.tc.loc main_arg1) : Vec Ideal S16x32x128 .f32) (ix3 (bi t p) s k) := by
  rw [← V_main_arg1 m c]
  blk_ext [iblk, idx t, bi]

/-- The embeddings' block at a grid point. -/
theorem iblk2 (c : Dev nD) (t : Fin cfg0.N) (p : Fin 4) (s : Fin 32) (k l : Fin 128) :
    iblk m c 2 t (ix4 p s k l) = (m (c.tc.loc main_arg2) : Vec Ideal S16x32x128x128 .f32) (ix4 (bi t p) s k l) := by
  rw [← V_main_arg2 m c]
  blk_ext [iblk, idx t, bi]

/-- The packed weights' block: the whole array. -/
theorem iblk3 (c : Dev nD) (t : Fin cfg0.N) (i : Fin 2) (k : Fin 640) :
    iblk m c 3 t (ix2 i k) = (V m c main_v2 : Vec Ideal S2x640 .f32) (ix2 i k) := by
  blk_ext [iblk, idx t]

/-- One of the two columns of the folded weights: the attention's or the gate's. -/
def wl (R : Data) (i : Fin 2) (j : Fin 64) : ℝ := if i.val < 1 then R.Wa j else R.Wf j

/-- The rows of the folded weights: the embedding's, then the gate's for its three inputs. -/
def wr (R : Data) (k : Fin 640) (j : Fin 64) : ℝ :=
  if h : k.val < 128 then R.We ⟨k.val, h⟩ j
  else if h : k.val - 128 < 128 then R.Fo ⟨k.val - 128, h⟩ j
  else if h : k.val - 128 - 128 < 256 then R.Fu ⟨k.val - 128 - 128, h⟩ j
  else R.Fc ⟨k.val - 128 - 128 - 256, by omega⟩ j

/-- The packed weights: every product of a column and a row. -/
def wp (R : Data) (i : Fin 2) (k : Fin 640) : ℝ := ∑ j, wl R i j * wr R k j

variable {m}

/-- The packed weights the host computes before the kernel. -/
theorem wpack {c : Dev nD} {R : Data} (H : Held m c R) (i : Fin 2) (k : Fin 640) :
    (V m c main_v2 : Vec Ideal S2x640 .f32) (ix2 i k) = ((wp R i k : ℝ) : EReal) := by
  unfold V V0
  after_reads_at
  have e9 : ∀ j l, (StableHlo.upto [hostOps0].flatten (fun b => m (c, b)) 0 (Proc.tc.devRef main_arg9) : Vec Ideal S64x1 .f32)
      (ix2 j l) = ((R.Wa j : ℝ) : EReal) := H.h9
  have e14 : ∀ j l, (StableHlo.upto [hostOps0].flatten (fun b => m (c, b)) 0 (Proc.tc.devRef main_arg14) : Vec Ideal S64x1 .f32)
      (ix2 j l) = ((R.Wf j : ℝ) : EReal) := H.h14
  have e7 : ∀ j l, (StableHlo.upto [hostOps0].flatten (fun b => m (c, b)) 1 (Proc.tc.devRef main_arg7) : Vec Ideal S128x64 .f32)
      (ix2 j l) = ((R.We j l : ℝ) : EReal) := by
    rw [StableHlo.upto_unwritten [main_v0] rfl (by decide)]; exact H.h7
  have e13 : ∀ j l, (StableHlo.upto [hostOps0].flatten (fun b => m (c, b)) 1 (Proc.tc.devRef main_arg13) : Vec Ideal S128x64 .f32)
      (ix2 j l) = ((R.Fo j l : ℝ) : EReal) := by
    rw [StableHlo.upto_unwritten [main_v0] rfl (by decide)]; exact H.h13
  have e11 : ∀ j l, (StableHlo.upto [hostOps0].flatten (fun b => m (c, b)) 1 (Proc.tc.devRef main_arg11) : Vec Ideal S256x64 .f32)
      (ix2 j l) = ((R.Fu j l : ℝ) : EReal) := by
    rw [StableHlo.upto_unwritten [main_v0] rfl (by decide)]; exact H.h11
  have e12 : ∀ j l, (StableHlo.upto [hostOps0].flatten (fun b => m (c, b)) 1 (Proc.tc.devRef main_arg12) : Vec Ideal S128x64 .f32)
      (ix2 j l) = ((R.Fc j l : ℝ) : EReal) := by
    rw [StableHlo.upto_unwritten [main_v0] rfl (by decide)]; exact H.h12
  unfold wp
  rw [← coe_sum]
  refine Finset.sum_congr rfl fun j _ => ?_
  rw [EReal.coe_mul]
  congr 1
  · unfold wl
    split
    · exact e9 _ _
    · exact e14 _ _
  · unfold wr
    split
    · exact e7 _ _
    · split
      · exact e13 _ _
      · split
        · exact e11 _ _
        · exact e12 _ _

variable (m) in
/-- The result is the kernel's array with its two leading axes merged. -/
theorem tail (c : Dev nD) (b : Fin 16) (n : Fin 4096) :
    (Pipeline.afterTail₀ cfgs (dats m) 0 (V0 m) [hostOps1] c main_v4 : Vec Ideal S16x4096 .f32) (ix2 b n)
      = ((dats m 0 c).arrAt 4 cfg0.N : Vec Ideal S4x4x4096 .f32) (ix3 ⟨b.val / 4, by omega⟩ ⟨b.val % 4, by omega⟩ n) := by
  unfold Pipeline.afterTail₀
  after_reads_at
  exact congrFun (Pipeline.withArrays_arr spec0 (by decide) c (V0 m c) (fun w => (dats m 0 c).arrAt w cfg0.N) 4) _

/-- The score row of the packed weights. -/
theorem wp_v (R : Data) : rv (wp R) = R.v := by
  funext h
  unfold rv wp wl wr Data.v
  exact Finset.sum_congr rfl fun j _ => by rw [if_pos (by decide), dif_pos h.isLt]

/-- The attended embedding's gate row of the packed weights. -/
theorem wp_q (R : Data) : rq (wp R) = R.q := by
  funext h
  unfold rq wp wl wr Data.q
  refine Finset.sum_congr rfl fun j _ => ?_
  rw [if_neg (by decide), dif_neg (by show ¬128 + h.val < 128; omega), dif_pos (by show 128 + h.val - 128 < 128; omega)]
  congr 2
  exact Fin.ext (by show 128 + h.val - 128 = h.val; omega)

/-- The utterance's gate row of the packed weights. -/
theorem wp_a (R : Data) : ra (wp R) = R.a := by
  funext h
  unfold ra wp wl wr Data.a
  refine Finset.sum_congr rfl fun j _ => ?_
  rw [if_neg (by decide), dif_neg (by show ¬256 + h.val < 128; omega), dif_neg (by show ¬256 + h.val - 128 < 128; omega),
    dif_pos (by show 256 + h.val - 128 - 128 < 256; omega)]
  congr 2
  exact Fin.ext (by show 256 + h.val - 128 - 128 = h.val; omega)

/-- The dialogue's gate row of the packed weights. -/
theorem wp_b (R : Data) : rb (wp R) = R.b := by
  funext h
  unfold rb wp wl wr Data.b
  refine Finset.sum_congr rfl fun j _ => ?_
  rw [if_neg (by decide), dif_neg (by show ¬512 + h.val < 128; omega), dif_neg (by show ¬512 + h.val - 128 < 128; omega),
    dif_neg (by show ¬512 + h.val - 128 - 128 < 256; omega)]
  congr 2
  exact Fin.ext (by show 512 + h.val - 128 - 128 - 256 = h.val; omega)

/-- What the kernel leaves in the block of a grid point: the last state of the point's batch entries. -/
theorem block_at {c : Dev nD} {R : Data} (H : Held m c R) (t : Fin cfg0.N) (p : Fin 4) (n : Fin 4096) :
    out0_4 (iblk m c 0 t) (iblk m c 1 t) (iblk m c 2 t) (iblk m c 3 t) (ix3 0 p n)
      = ((R.S 32 (bi t p) n : ℝ) : EReal) := by
  have h := out_at (iblk m c 0 t) (iblk m c 1 t) (iblk m c 2 t) (iblk m c 3 t)
    (fun p => R.U (bi t p)) (fun p => R.Dg (bi t p)) (fun p => R.X (bi t p)) (wp R)
    (fun p s k => (iblk0 m c t p s k).trans (H.h0 _ _ _)) (fun p s k => (iblk1 m c t p s k).trans (H.h1 _ _ _))
    (fun p s k l => (iblk2 m c t p s k l).trans (H.h2 _ _ _ _)) (fun i k => (iblk3 m c t i k).trans (wpack H i k)) p n
  rw [wp_v, wp_q, wp_a, wp_b] at h
  exact h

/-- The kernel's result array, as one function. -/
def goal (R : Data) : Vec Ideal S4x4x4096 .f32 := fun i => ((R.S 32 ⟨(i 0).val * 4 + (i 1).val, by
  have h0 : (i 0).val < 4 := (i 0).isLt
  have h1 : (i 1).val < 4 := (i 1).isLt
  omega⟩ (i 2) : ℝ) : EReal)

/-- A grid point as the leading coordinate of the result array. -/
def tc (t : Fin cfg0.N) : Fin 4 := ⟨t.val, lt_of_lt_of_eq t.isLt N_0⟩

/-- That function read through a point's block. -/
theorem goal_read (R : Data) (t : Fin cfg0.N) (p : Fin 4) (n : Fin 4096) :
    ((cfg0.win 4).blk t).view.read (Elt Ideal) (goal R) (ix3 0 p n) = goal R (ix3 (tc t) p n) := by
  blk_ext [idx t, tc]

/-- Each point writes back its block of that function. -/
theorem flushed_eq {c : Dev nD} {R : Data} (H : Held m c R) (t : Fin cfg0.N) :
    (dats m 0 c).flushed 4 t = ((cfg0.win 4).blk t).view.read (Elt Ideal) (goal R) := by
  have key : ∀ j : S1x4x4096.Idx, out0_4 (iblk m c 0 t) (iblk m c 1 t) (iblk m c 2 t) (iblk m c 3 t) j
      = ((cfg0.win 4).blk t).view.read (Elt Ideal) (goal R) j := by
    intro j
    idx_vars j
    obtain rfl : j0 = 0 := Subsingleton.elim _ _
    exact (block_at H t j1 j2).trans (goal_read R t j1 j2).symm
  funext j
  show (cfg0.win 4).cut (grid0.coords t) ((dats m 0 c).after 4 t) j = _
  rw [after0_4]
  exact key j

/-- An index of the result array is in a point's block when its leading coordinate is the point. -/
theorem mem_blk (t : Fin cfg0.N) (i : S4x4x4096.Idx) :
    i ∈ ((cfg0.win 4).blk t).view.set ↔ t.val = (i 0 : Nat) := by
  show i ∈ ((View.whole main_v3).slice (win0_4.rect t)).set ↔ _
  rw [View.set_slice_whole, Rect.mem_set_unit]
  have h1 : (i 1 : Nat) < 4 := (i 1).isLt
  have h2 : (i 2 : Nat) < 4096 := (i 2).isLt
  have e : ∀ t : Fin grid0.N, win0_4.index t 0 * win0_4.size 0 = t.val ∧ win0_4.xsize (grid0.coords t) 0 = 1
      ∧ win0_4.index t 1 * win0_4.size 1 = 0 ∧ win0_4.xsize (grid0.coords t) 1 = 4
      ∧ win0_4.index t 2 * win0_4.size 2 = 0 ∧ win0_4.xsize (grid0.coords t) 2 = 4096 := by
    decide +kernel
  obtain ⟨e0, e0', e1, e1', e2, e2'⟩ := e t
  refine ⟨fun h => ?_, fun h a => ?_⟩
  · have h0 : win0_4.index t 0 * win0_4.size 0 ≤ (i 0 : Nat)
        ∧ (i 0 : Nat) < win0_4.index t 0 * win0_4.size 0 + win0_4.xsize (grid0.coords t) 0 := h 0
    rw [e0, e0'] at h0
    omega
  · match a with
    | ⟨0, _⟩ =>
      show win0_4.index t 0 * win0_4.size 0 ≤ (i 0 : Nat)
        ∧ (i 0 : Nat) < win0_4.index t 0 * win0_4.size 0 + win0_4.xsize (grid0.coords t) 0
      rw [e0, e0']
      omega
    | ⟨1, _⟩ =>
      show win0_4.index t 1 * win0_4.size 1 ≤ (i 1 : Nat)
        ∧ (i 1 : Nat) < win0_4.index t 1 * win0_4.size 1 + win0_4.xsize (grid0.coords t) 1
      rw [e1, e1']
      omega
    | ⟨2, _⟩ =>
      show win0_4.index t 2 * win0_4.size 2 ≤ (i 2 : Nat)
        ∧ (i 2 : Nat) < win0_4.index t 2 * win0_4.size 2 + win0_4.xsize (grid0.coords t) 2
      rw [e2, e2']
      omega

/-- The points' blocks fill the result array. -/
theorem cover (i : S4x4x4096.Idx) :
    ∃ t : Fin cfg0.N, (cfg0.win 4).flush t = true ∧ i ∈ ((cfg0.win 4).blk t).view.set := by
  have h0 : (i 0 : Nat) < 4 := (i 0).isLt
  refine ⟨⟨(i 0).val, lt_of_lt_of_eq h0 N_0.symm⟩, flush0_4 _, ?_⟩
  rw [mem_blk]

/-- The kernel's array at the end. -/
theorem final {c : Dev nD} {R : Data} (H : Held m c R) : (dats m 0 c).arrAt 4 cfg0.N = goal R :=
  (dats m 0 c).arrAt_eq_of_cover 4 (goal R) (fun t _ => flushed_eq H t) cover

/-- The result: the last state of every batch entry. -/
def last (R : Data) : Vec Ideal S16x4096 .f32 := fun i => ((R.S 32 (i 0) (i 1) : ℝ) : EReal)

/-- The result buffer after the lines behind the kernel. -/
theorem result {c : Dev nD} {R : Data} (H : Held m c R) :
    (Pipeline.afterTail₀ cfgs (dats m) 0 (V0 m) [hostOps1] c main_v4 : Vec Ideal S16x4096 .f32) = last R := by
  funext j
  idx_vars j
  rw [tail, final H]
  exact congrArg (fun p : Fin 16 => ((R.S 32 p j1 : ℝ) : EReal))
    (Fin.ext (by show j0.val / 4 * 4 + j0.val % 4 = j0.val; omega) :
      (⟨j0.val / 4 * 4 + j0.val % 4, by omega⟩ : Fin 16) = j0)

/-- The kernel's run from arguments of real entries: the result, and the arguments unchanged. -/
theorem run (R : Dev nD → Data) (H : ∀ c, Held m c (R c)) :
    θ_run defs (onTc (τ := τ) (main (F := Ideal))) ⟨m, fun _ => 0, ρ⟩ (fun r => ∀ c : Dev nD,
      r.2.mem (c.tc.loc main_v4) = (last (R c) : Vec Ideal S16x4096 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)) := by
  refine (θ_run defs _ _).mono (fun _ h c => ?_) (run_main m ρ)
  exact ⟨((h c).2 main_v4 (Pipeline.mem_restRefs_of main_v4 (by decide) (by decide))).trans (result (H c)),
    ((h c).1 0).trans (((dats m 0 c).arrAt_in 0 rfl _).trans (V_main_arg0 m c)),
    ((h c).1 1).trans (((dats m 0 c).arrAt_in 1 rfl _).trans (V_main_arg1 m c)),
    ((h c).1 2).trans (((dats m 0 c).arrAt_in 2 rfl _).trans (V_main_arg2 m c)),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c)⟩

end Cert.KernelIdeal.My

end
-- ==== Proof.My.RefStep.lean ====
module

public import proofs.«01_k».proof.Proof.Gen.ReferenceIdeal.Step
public import proofs.«01_k».proof.Proof.My.Math
public import Idealize.ShloMosaic.Lib.DynamicIndex
public import Idealize.ShloMosaic.Lib.Pipeline.Value

@[expose] public section

set_option maxRecDepth 16384

noncomputable section

namespace Cert.ReferenceIdeal.My

open Idealize.ShloMosaic Cert.ReferenceIdeal Cert.ReferenceIdeal.Gen Cert.ReferenceIdeal.Step Cert.Turn

/-- The arguments a trip reads hold the real numbers of `R`. -/
structure Fed (R : Data) (s : State Ideal) : Prop where
  dg : ∀ p t k, s.main_v1_0 (ix3 p t k) = ((R.Dg p t k : ℝ) : EReal)
  u : ∀ p t k, s.main_v1_1 (ix3 p t k) = ((R.U p t k : ℝ) : EReal)
  x : ∀ p t c h, s.main_v1_2 (ix4 p t c h) = ((R.X p t c h : ℝ) : EReal)
  wu : ∀ k l, s.main_v1_3 (ix2 k l) = ((R.Wu k l : ℝ) : EReal)
  bu : ∀ l, s.main_v1_4 (ix1 l) = ((R.bu l : ℝ) : EReal)
  wc : ∀ k l, s.main_v1_5 (ix2 k l) = ((R.Wc k l : ℝ) : EReal)
  bc : ∀ l, s.main_v1_6 (ix1 l) = ((R.bc l : ℝ) : EReal)
  we : ∀ k l, s.main_v1_7 (ix2 k l) = ((R.We k l : ℝ) : EReal)
  be : ∀ l, s.main_v1_8 (ix1 l) = ((R.be l : ℝ) : EReal)
  wa : ∀ l o, s.main_v1_9 (ix2 l o) = ((R.Wa l : ℝ) : EReal)
  ba : ∀ o, s.main_v1_10 (ix1 o) = ((R.ba : ℝ) : EReal)
  fu : ∀ k l, s.main_v1_11 (ix2 k l) = ((R.Fu k l : ℝ) : EReal)
  fc : ∀ k l, s.main_v1_12 (ix2 k l) = ((R.Fc k l : ℝ) : EReal)
  fo : ∀ k l, s.main_v1_13 (ix2 k l) = ((R.Fo k l : ℝ) : EReal)
  wf : ∀ l o, s.main_v1_14 (ix2 l o) = ((R.Wf l : ℝ) : EReal)

variable {R : Data} {s : State Ideal} (H : Fed R s) (j : Fin 32)

/-! ## The turn's slices -/

/-- The previous turn's number, 0 at the first turn, as the reference's start word. -/
theorem start_prev : (b11 (F := Ideal) j.val s (Shape.Idx.first h_S_)).toInt = ((j.val - 1 : ℕ) : ℤ) := by
  show (Scalar.select (IntOp.cmpi .slt (IntOp.maxsi (IntOp.subi (BitVec.ofNat 32 j.val) 1#32) 0#32) 0#32)
    (IntOp.addi (IntOp.maxsi (IntOp.subi (BitVec.ofNat 32 j.val) 1#32) 0#32) 32#32)
    (IntOp.maxsi (IntOp.subi (BitVec.ofNat 32 j.val) 1#32) 0#32)).toInt = _
  revert j
  decide

/-- The utterance's start word is the turn's number. -/
theorem start_u : (b26 (F := Ideal) j.val s (Shape.Idx.first h_S_)).toInt = (j.val : ℤ) :=
  toInt_wrap_ofNat j.val (by omega)

/-- The embeddings' start word is the turn's number. -/
theorem start_x : (b36 (F := Ideal) j.val s (Shape.Idx.first h_S_)).toInt = (j.val : ℤ) :=
  toInt_wrap_ofNat j.val (by omega)

/-- Whether the turn is not the first, as the reference's word. -/
theorem not_first (i : S_.Idx) : b17 (F := Ideal) j.val s i = if j.val = 0 then 0#1 else 1#1 := by
  show IntOp.cmpi .ne (BitVec.ofNat 32 j.val) 0#32 = _
  revert j
  decide

/-- The same word, computed again before the turn's distribution is written. -/
theorem not_first' (i : S_.Idx) : b94 (F := Ideal) j.val s i = if j.val = 0 then 0#1 else 1#1 :=
  not_first (s := s) j i

/-- The turn's block starts at column 128·j. -/
theorem start_out : (b110 (F := Ideal) j.val s (Shape.Idx.first h_S_)).toInt = ((j.val * 128 : ℕ) : ℤ) := by
  show (Scalar.select (IntOp.cmpi .slt (IntOp.muli (BitVec.ofNat 32 j.val) 128#32) 0#32)
    (IntOp.addi (IntOp.muli (BitVec.ofNat 32 j.val) 128#32) 4096#32)
    (IntOp.muli (BitVec.ofNat 32 j.val) 128#32)).toInt = _
  revert j
  decide

/-- The previous turn's row lies inside the dialogue. -/
theorem fits_b15 : S16x32x128.Slices ![0, j.val - 1, 0] S16x1x128 := by
  refine ⟨rfl, fun a => ?_⟩
  fin_cases a
  · exact Nat.le_refl 16
  · show j.val - 1 + 1 ≤ 32; omega
  · exact Nat.le_refl 128

/-- The turn's row lies inside the utterances. -/
theorem fits_b30 : S16x32x256.Slices ![0, j.val, 0] S16x1x256 := by
  refine ⟨rfl, fun a => ?_⟩
  fin_cases a
  · exact Nat.le_refl 16
  · show j.val + 1 ≤ 32; omega
  · exact Nat.le_refl 256

/-- The turn's block lies inside the embeddings. -/
theorem fits_b41 : S16x32x128x128.Slices ![0, j.val, 0, 0] S16x1x128x128 := by
  refine ⟨rfl, fun a => ?_⟩
  fin_cases a
  · exact Nat.le_refl 16
  · show j.val + 1 ≤ 32; omega
  · exact Nat.le_refl 128
  · exact Nat.le_refl 128

include H

/-- The previous turn's dialogue row. -/
theorem at15 (p : Fin 16) (k : Fin 128) :
    b15 j.val s (ix2 p k) = ((R.Dg p ⟨j.val - 1, by omega⟩ k : ℝ) : EReal) := by
  have e : b14 j.val s = extractStridedSlice S16x1x128 ![0, j.val - 1, 0] s.main_v1_0 (fits_b15 j) :=
    Host.dynamicSlice_eq_extractStridedSlice S16x1x128 s.main_v1_0 _ ![0, j.val - 1, 0] sliceFits_S16x32x128_S16x1x128 (fits_b15 j)
      (by intro a; fin_cases a
          · rfl
          · exact start_prev j
          · rfl)
  unfold b15
  rw [e]
  pointwise []
  rw [← H.dg]

/-- The dialogue row the turn reads: the previous turn's, zeros at the first turn. -/
theorem at20 (p : Fin 16) (k : Fin 128) : b20 j.val s (ix2 p k) = ((prev (R.Dg p) j k : ℝ) : EReal) := by
  unfold b20 b19 b18
  pointwise [at15 H j, not_first, ofBits_zero]
  unfold prev
  by_cases h : j.val = 0
  · simp [h, Scalar.select]
  · simp [h, Scalar.select]

/-- The turn's utterance row. -/
theorem at30 (p : Fin 16) (k : Fin 256) : b30 j.val s (ix2 p k) = ((R.U p j k : ℝ) : EReal) := by
  have e : b29 j.val s = extractStridedSlice S16x1x256 ![0, j.val, 0] s.main_v1_1 (fits_b30 j) :=
    Host.dynamicSlice_eq_extractStridedSlice S16x1x256 s.main_v1_1 _ ![0, j.val, 0] sliceFits_S16x32x256_S16x1x256 (fits_b30 j)
      (by intro a; fin_cases a
          · rfl
          · exact start_u j
          · rfl)
  unfold b30
  rw [e]
  pointwise []
  rw [← H.u]

/-- The turn's embeddings. -/
theorem at41 (p : Fin 16) (c h : Fin 128) : b41 j.val s (ix3 p c h) = ((R.X p j c h : ℝ) : EReal) := by
  have e : b40 j.val s = extractStridedSlice S16x1x128x128 ![0, j.val, 0, 0] s.main_v1_2 (fits_b41 j) :=
    Host.dynamicSlice_eq_extractStridedSlice S16x1x128x128 s.main_v1_2 _ ![0, j.val, 0, 0] sliceFits_S16x32x128x128_S16x1x128x128 (fits_b41 j)
      (by intro a; fin_cases a
          · rfl
          · exact start_x j
          · rfl
          · rfl)
  unfold b41
  rw [e]
  pointwise []
  rw [← H.x]

/-! ## The turn's distribution -/

/-- The part of the score no candidate changes. -/
def common (R : Data) (p : Fin 16) (j : Fin 32) : ℝ :=
  (∑ l, ((((∑ k, R.U p j k * R.Wu k l) + R.bu l) + ((∑ k, prev (R.Dg p) j k * R.Wc k l) + R.bc l)) + R.be l) * R.Wa l) + R.ba

omit H in
/-- The scores in real numbers: the folded row on the embedding, and a part no candidate changes. -/
theorem score_real (p : Fin 16) (c : Fin 128) :
    (∑ l, ((((∑ k, R.U p j k * R.Wu k l) + R.bu l) + ((∑ k, prev (R.Dg p) j k * R.Wc k l) + R.bc l))
      + ((∑ h, R.X p j c h * R.We h l) + R.be l)) * R.Wa l) + R.ba
    = (∑ h, R.v h * R.X p j c h) + common R p j :=
  score_eq (R.X p j c) (fun l => (∑ k, R.U p j k * R.Wu k l) + R.bu l) (fun l => (∑ k, prev (R.Dg p) j k * R.Wc k l) + R.bc l)
    R.be R.Wa R.We R.ba

/-- The utterance's hidden row. -/
theorem at45 (p : Fin 16) (l : Fin 64) :
    b45 j.val s (ix2 p l) = (((∑ k, R.U p j k * R.Wu k l) + R.bu l : ℝ) : EReal) := by
  unfold b45 b42 b44 b43
  pointwise [at30 H j, H.wu, H.bu, ← EReal.coe_mul, coe_sum, ← EReal.coe_add]

/-- The dialogue's hidden row. -/
theorem at50 (p : Fin 16) (l : Fin 64) :
    b50 j.val s (ix2 p l) = (((∑ k, prev (R.Dg p) j k * R.Wc k l) + R.bc l : ℝ) : EReal) := by
  unfold b50 b47 b49 b48
  pointwise [at20 H j, H.wc, H.bc, ← EReal.coe_mul, coe_sum, ← EReal.coe_add]

/-- The embeddings' hidden rows. -/
theorem at55 (p : Fin 16) (c : Fin 128) (l : Fin 64) :
    b55 j.val s (ix3 p c l) = (((∑ h, R.X p j c h * R.We h l) + R.be l : ℝ) : EReal) := by
  unfold b55 b52 b54 b53
  pointwise [at41 H j, H.we, H.be, ← EReal.coe_mul, coe_sum, ← EReal.coe_add]

/-- The hidden rows' sum. -/
theorem at58 (p : Fin 16) (c : Fin 128) (l : Fin 64) :
    b58 j.val s (ix3 p c l) = (((((∑ k, R.U p j k * R.Wu k l) + R.bu l) + ((∑ k, prev (R.Dg p) j k * R.Wc k l) + R.bc l))
      + ((∑ h, R.X p j c h * R.We h l) + R.be l) : ℝ) : EReal) := by
  unfold b58 b57 b56 b51 b46
  pointwise [at45 H j, at50 H j, at55 H j, ← EReal.coe_add]

/-- The scores. -/
theorem at63 (p : Fin 16) (c : Fin 128) :
    b63 j.val s (ix2 p c) = (((∑ h, R.v h * R.X p j c h) + common R p j : ℝ) : EReal) := by
  unfold b63 b62 b61 b60 b59
  pointwise [at58 H j, H.wa, H.ba, ← EReal.coe_mul, coe_sum, ← EReal.coe_add]
  rw [score_real]

/-- The turn's distribution. -/
theorem at77 (p : Fin 16) (c : Fin 128) : b77 j.val s (ix2 p c) = ((R.D p j c : ℝ) : EReal) := by
  unfold b77 b76 b75 b74 b73 b72 b71 b70 b69 b68 b67 b66 b65 b64
  pointwise [at63 H j, ofBits_zero, ofBits_neg_inf]
  simp only [max_eq_right (bot_le : (⊥ : EReal) ≤ _)]
  refine (soft_fold (fun c => (∑ h, R.v h * R.X p j c h) + common R p j) c).trans ?_
  exact congrArg Real.toEReal (sm_shift (fun c => ∑ h, R.v h * R.X p j c h) (common R p j) c)

/-! ## The turn's gate -/

/-- The distribution's mean embedding. -/
theorem at78 (p : Fin 16) (h : Fin 128) :
    b78 j.val s (ix2 p h) = ((∑ c, R.D p j c * R.X p j c h : ℝ) : EReal) := by
  unfold b78
  pointwise [at77 H j, at41 H j, ← EReal.coe_mul, coe_sum]

/-- The gate's hidden row. -/
theorem at83 (p : Fin 16) (l : Fin 64) :
    b83 j.val s (ix2 p l) = ((((∑ k, prev (R.Dg p) j k * R.Fc k l) + ∑ k, R.U p j k * R.Fu k l)
      + ∑ h, (∑ c, R.D p j c * R.X p j c h) * R.Fo h l : ℝ) : EReal) := by
  unfold b83 b82 b81 b80 b79
  pointwise [at78 H j, at20 H j, at30 H j, H.fu, H.fc, H.fo, ← EReal.coe_mul, coe_sum, ← EReal.coe_add]

/-- The gate. -/
theorem at92 (p : Fin 16) (o : Fin 1) : b92 j.val s (ix2 p o) = ((R.G p j : ℝ) : EReal) := by
  unfold b92 b91 b90 b89 b88 b87 b86 b85 b84
  pointwise [at83 H j, H.wf, ofBits_one, ← EReal.coe_mul, coe_sum]
  refine (sg_coe _).trans (congrArg (fun z => ((sg z : ℝ) : EReal)) ?_)
  exact (logit_eq (R.U p j) (prev (R.Dg p) j) (R.D p j) (R.X p j) R.Fu R.Fc R.Fo R.Wf).symm

/-! ## The turn's step -/

/-- The block the turn writes. -/
theorem at100 (p : Fin 16) (c : Fin 128) :
    b100 j.val s (ix2 p c) = ((fresh (R.D p) (R.G p) j c : ℝ) : EReal) := by
  unfold b100 b99 b98 b97 b96 b95
  pointwise [at92 H j, at77 H j, not_first', ofBits_one]
  unfold fresh
  by_cases h : j.val = 0
  · simp [h, Scalar.select]
  · simp only [h, Scalar.select, if_false, if_true, EReal.coe_mul, EReal.coe_sub, EReal.coe_one]
    exact if_pos rfl

omit H in
/-- The turn's block lies inside the state. -/
theorem fits_b112 : S16x4096.Slices ![0, j.val * 128] S16x128 := by
  refine ⟨rfl, fun a => ?_⟩
  fin_cases a
  · exact Nat.le_refl 16
  · show j.val * 128 + 128 ≤ 4096; omega

omit H in
/-- The written state, at the turn's block. -/
theorem slice112 : b112 (F := Ideal) j.val s
    = updateSlice (b102 j.val s) (b100 j.val s) ![0, j.val * 128] (fits_b112 j) :=
  Host.dynamicUpdateSlice_eq_updateSlice _ _ _ _ _ (by
    intro a; fin_cases a
    · rfl
    · show (min (max ((b110 (F := Ideal) j.val s (Shape.Idx.first h_S_)).toInt) 0) ((4096 - 128 : ℕ) : ℤ)).toNat = j.val * 128
      rw [start_out]; omega) (fits_b112 j)

/-- The state after the turn. -/
theorem at112 (hS : ∀ p i, s.main_v1_17 (ix2 p i) = ((R.S j.val p i : ℝ) : EReal)) (p : Fin 16) (i : Fin 4096) :
    b112 j.val s (ix2 p i) = ((R.S (j.val + 1) p i : ℝ) : EReal) := by
  rw [slice112]
  unfold b102 b101
  pointwise [at100 H j, hS, at92 H j]
  refine Eq.trans ?_ (congrArg Real.toEReal (st_succ (R.D p) (R.G p) j i)).symm
  by_cases h : j.val * 128 ≤ i.val ∧ i.val < j.val * 128 + 128
  · have e : turn i = j := Fin.ext (by show i.val / 128 = j.val; omega)
    have e' : (⟨i.val - j.val * 128, by omega⟩ : Fin 128) = lane i := Fin.ext (by show i.val - j.val * 128 = i.val % 128; omega)
    refine (dif_pos h).trans ?_
    rw [if_pos e, e']
  · have e : ¬ turn i = j := fun e => h (by
      have e1 : i.val / 128 = j.val := congrArg Fin.val e
      omega)
    refine (dif_neg h).trans ?_
    rw [if_neg e, EReal.coe_mul]
    rfl

/-- A trip leaves the arguments it reads as they were. -/
theorem fed_step (n : ℕ) : Fed R (step n s) := by
  unfold step
  exact ⟨H.dg, H.u, H.x, H.wu, H.bu, H.wc, H.bc, H.we, H.be, H.wa, H.ba, H.fu, H.fc, H.fo, H.wf⟩

omit H in
/-- The states of the loop from a start of zeros hold the specification's states. -/
theorem iter_at (it : ℕ → State Ideal) (hs : ∀ n, it (n + 1) = step n (it n)) (h0 : Fed R (it 0))
    (hz : ∀ p i, (it 0).main_v1_17 (ix2 p i) = (0 : EReal)) :
    ∀ n ≤ 32, Fed R (it n) ∧ ∀ p i, (it n).main_v1_17 (ix2 p i) = ((R.S n p i : ℝ) : EReal)
  | 0, _ => ⟨h0, fun p i => by rw [hz, Data.S, st_zero, EReal.coe_zero]⟩
  | n + 1, hn => by
    obtain ⟨hF, hS⟩ := iter_at it hs h0 hz n (by omega)
    rw [hs n]
    exact ⟨fed_step hF n, fun p i => by
      rw [step_main_v1_17]
      exact at112 hF ⟨n, by omega⟩ hS p i⟩

end Cert.ReferenceIdeal.My

end
-- ==== Proof.My.RefRun.lean ====
module

public import proofs.«01_k».proof.Proof.Gen.ReferenceIdeal.Run
public import proofs.«01_k».proof.Proof.My.RefStep

@[expose] public section

set_option maxRecDepth 16384

noncomputable section

namespace Cert.ReferenceIdeal.My

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step Cert.Turn

/-- The loop's buffers hold a state, and its counters the number of a trip. -/
structure Carries (V : Valuation τ sig (Elt Ideal)) (s : State Ideal) (j : ℕ) : Prop where
  f17 : V (Proc.devRef .tc main_v1_17) = s.main_v1_17
  f0 : V (Proc.devRef .tc main_v1_0) = s.main_v1_0
  f1 : V (Proc.devRef .tc main_v1_1) = s.main_v1_1
  f2 : V (Proc.devRef .tc main_v1_2) = s.main_v1_2
  f3 : V (Proc.devRef .tc main_v1_3) = s.main_v1_3
  f4 : V (Proc.devRef .tc main_v1_4) = s.main_v1_4
  f5 : V (Proc.devRef .tc main_v1_5) = s.main_v1_5
  f6 : V (Proc.devRef .tc main_v1_6) = s.main_v1_6
  f7 : V (Proc.devRef .tc main_v1_7) = s.main_v1_7
  f8 : V (Proc.devRef .tc main_v1_8) = s.main_v1_8
  f9 : V (Proc.devRef .tc main_v1_9) = s.main_v1_9
  f10 : V (Proc.devRef .tc main_v1_10) = s.main_v1_10
  f11 : V (Proc.devRef .tc main_v1_11) = s.main_v1_11
  f12 : V (Proc.devRef .tc main_v1_12) = s.main_v1_12
  f13 : V (Proc.devRef .tc main_v1_13) = s.main_v1_13
  f14 : V (Proc.devRef .tc main_v1_14) = s.main_v1_14
  n15 : V (Proc.devRef .tc main_v1_15) = constantI S_ 32 (BitVec.ofNat 32 j)
  n16 : V (Proc.devRef .tc main_v1_16) = constantI S_ 32 (BitVec.ofNat 32 j)

variable {V : Valuation τ sig (Elt Ideal)} {s : State Ideal} {j : ℕ} (h : Carries V s j)

include h

/-! ## The named values of one trip -/

/-- The previous turn's number of a trip is the step's. -/
theorem named4 : res_main_while0b_v4 V = b5 j s := by
  unfold res_main_while0b_v4
  rw [h.n16]
  rfl

/-- The dialogue row of a trip is the step's. -/
theorem named8 : res_main_while0b_v8 V = b20 j s := by
  unfold res_main_while0b_v8
  rw [h.n16, h.f0, named4 h]
  rfl

/-- The utterance row of a trip is the step's. -/
theorem named9 : res_main_while0b_v9 V = b30 j s := by
  unfold res_main_while0b_v9
  rw [h.n16, h.f1]
  rfl

/-- The embeddings of a trip is the step's. -/
theorem named10 : res_main_while0b_v10 V = b41 j s := by
  unfold res_main_while0b_v10
  rw [h.n16, h.f2]
  rfl

/-- The scores of a trip is the step's. -/
theorem named32 : res_main_while0b_v32 V = b63 j s := by
  unfold res_main_while0b_v32
  rw [h.f3, h.f4, h.f5, h.f6, h.f7, h.f8, h.f9, h.f10, named8 h, named9 h, named10 h]
  rfl

/-- The scores' exponentials of a trip is the step's. -/
theorem named39 : res_main_while0b_v39 V = b72 j s := by
  unfold res_main_while0b_v39
  rw [named32 h]
  rfl

/-- The distribution of a trip is the step's. -/
theorem named43 : res_main_while0b_v43 V = b77 j s := by
  unfold res_main_while0b_v43
  rw [named39 h]
  rfl

/-- The gate of a trip is the step's. -/
theorem named56 : res_main_while0b_v56 V = b92 j s := by
  unfold res_main_while0b_v56
  rw [h.f11, h.f12, h.f13, h.f14, named8 h, named9 h, named10 h, named43 h]
  rfl

/-- The block's start of a trip is the step's. -/
theorem named65 : res_main_while0b_v65 V = b104 j s := by
  unfold res_main_while0b_v65
  rw [h.n16]
  rfl

/-- The state a trip leaves is the step's. -/
theorem named_state : Value.step_main_v1_17 V = b112 j s := by
  unfold Value.step_main_v1_17
  rw [h.f17, h.n16, named43 h, named56 h, named65 h]
  rfl

/-- One trip goes from a state to the step of it, and from a number to the next. -/
theorem carries_step : Carries (STEP V) (step j s) (j + 1) where
  f17 := (STEP_main_v1_17 V).trans ((named_state h).trans (Step.step_main_v1_17 j s).symm)
  f0 := (STEP_main_v1_0 V).trans h.f0
  f1 := (STEP_main_v1_1 V).trans h.f1
  f2 := (STEP_main_v1_2 V).trans h.f2
  f3 := (STEP_main_v1_3 V).trans h.f3
  f4 := (STEP_main_v1_4 V).trans h.f4
  f5 := (STEP_main_v1_5 V).trans h.f5
  f6 := (STEP_main_v1_6 V).trans h.f6
  f7 := (STEP_main_v1_7 V).trans h.f7
  f8 := (STEP_main_v1_8 V).trans h.f8
  f9 := (STEP_main_v1_9 V).trans h.f9
  f10 := (STEP_main_v1_10 V).trans h.f10
  f11 := (STEP_main_v1_11 V).trans h.f11
  f12 := (STEP_main_v1_12 V).trans h.f12
  f13 := (STEP_main_v1_13 V).trans h.f13
  f14 := (STEP_main_v1_14 V).trans h.f14
  n15 := (STEP_main_v1_15 V).trans (by
    unfold step_main_v1_15
    rw [h.n15]
    funext i
    show BitVec.ofNat 32 j + 1#32 = BitVec.ofNat 32 (j + 1)
    rw [BitVec.ofNat_add])
  n16 := (STEP_main_v1_16 V).trans (by
    unfold step_main_v1_16
    rw [h.n16]
    funext i
    show BitVec.ofNat 32 j + 1#32 = BitVec.ofNat 32 (j + 1)
    rw [BitVec.ofNat_add])

omit h

/-! ## The run -/

variable (m : (ℓ : Loc nD τ sig) → Buf (Elt Ideal) ℓ) (ρ : Dev nD → PrngReg)

/-- The state the loop starts from. -/
def start (c : Dev nD) : State Ideal :=
  init (m (c.tc.loc main_arg1)) (m (c.tc.loc main_arg0)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14))

set_option maxHeartbeats 800000 in
/-- Before the first trip the loop's buffers hold the start and the number 0. -/
theorem carries_start (c : Dev nD) : Carries (entryContents preI m c) (start m c) 0 := by
  constructor <;> (simp only [entryContents, afterL_cons, afterL_nil]; after_reads_simp) <;> rfl

/-- The states of the loop. -/
def states (c : Dev nD) : ℕ → State Ideal
  | 0 => start m c
  | n + 1 => step n (states c n)

/-- Before each trip the loop's buffers hold the state and the number of it. -/
theorem carries_states (c : Dev nD) : ∀ n, Carries (STEP^[n] (entryContents preI m c)) (states m c n) n
  | 0 => carries_start m c
  | n + 1 => by
    rw [Function.iterate_succ_apply']
    exact carries_step (carries_states c n)

/-- The result the 32 turns leave. -/
def last (R : Data) : Vec Ideal S16x4096 .f32 := fun i => ((R.S 32 (i 0) (i 1) : ℝ) : EReal)

/-- What the loop leaves, of arguments of real entries. -/
theorem states_last {R : Data} (c : Dev nD) (H : Fed R (start m c)) : (states m c 32).main_v1_17 = last R := by
  have e := (iter_at (states m c) (fun _ => rfl) H (fun p i => ofBits_zero) 32 (le_refl _)).2
  funext i
  idx_vars i
  exact e i0 i1

/-- The reference's run from arguments of real entries: the result, and the arguments unchanged. -/
theorem run (R : Dev nD → Data) (H : ∀ c, Fed (R c) (start m c)) :
    θ_run defs (onTc (τ := τ) (main (F := Ideal))) ⟨m, fun _ => 0, ρ⟩ (fun r => ∀ c : Dev nD,
      r.2.mem (c.tc.loc main_v1_17) = (last (R c) : Vec Ideal S16x4096 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)) :=
  (θ_run defs _ _).mono (fun _ h c => ⟨(h c).1.trans ((carries_states m c 32).f17.trans (states_last m c (H c))), (h c).2⟩)
    (Value.run m ρ)

end Cert.ReferenceIdeal.My

end
-- ==== Proof.My.Finite.lean ====
module

public import proofs.«01_k».proof.Defs
public import proofs.«01_k».proof.Proof.My.KernelRun
public import proofs.«01_k».proof.Proof.My.RefRun

@[expose] public section

set_option maxRecDepth 16384

noncomputable section

namespace Cert.Proof

open Idealize.ShloMosaic Idealize.ShloMosaic.TcCoe Idealize.SL.Sem Cert.Turn
open Cert.KernelIdeal (nD τ sig)

/-- The shapes the precondition's operations take. -/
theorem finite_facts : Cert.Pre_finite.Facts :=
  ⟨by decide, by decide, by decide, by decide, by decide, by decide, by decide, by decide⟩

/-- A number whose absolute value is less than infinity is real. -/
theorem real_of_lt (x : EReal) (h : Ideal.cmp .olt (max x (-x)) ⊤ = 1#1) : x = ((x.toReal : ℝ) : EReal) := by
  induction x with
  | bot => simp [Ideal.cmp] at h
  | coe r => rfl
  | top => simp [Ideal.cmp] at h

/-- An array the precondition's comparison is true of at every entry has real entries. -/
theorem real_of_mask {S : Shape} (x : FVec Ideal S .f32) (b : Cert.Pre_finite.S_.BroadcastsInDim S ![])
    (h : cmpf .olt (Host.absf x) (broadcastInDim S ![] b (constant Cert.Pre_finite.S_ .f32 0x7F800000#32)) = fun _ => 1#1)
    (i : S.Idx) : x i = (((x i).toReal : ℝ) : EReal) := by
  refine real_of_lt (x i) ?_
  have e : Ideal.cmp .olt (max (x i) (-(x i))) (Ideal.ofBits .f32 2139095040#32) = 1#1 := congrFun h i
  rwa [ofBits_inf] at e

variable (m : (ℓ : Loc nD τ sig) → Buf (Elt Ideal) ℓ)

/-- The real numbers the arguments hold on a device. -/
def data (c : Dev nD) : Data where
  U p t k := ((m (c.tc.loc Cert.KernelIdeal.main_arg0) : Vec Ideal Cert.KernelIdeal.S16x32x256 .f32) (ix3 p t k)).toReal
  Dg p t k := ((m (c.tc.loc Cert.KernelIdeal.main_arg1) : Vec Ideal Cert.KernelIdeal.S16x32x128 .f32) (ix3 p t k)).toReal
  X p t k l := ((m (c.tc.loc Cert.KernelIdeal.main_arg2) : Vec Ideal Cert.KernelIdeal.S16x32x128x128 .f32) (ix4 p t k l)).toReal
  Wu p t := ((m (c.tc.loc Cert.KernelIdeal.main_arg3) : Vec Ideal Cert.KernelIdeal.S256x64 .f32) (ix2 p t)).toReal
  bu p := ((m (c.tc.loc Cert.KernelIdeal.main_arg4) : Vec Ideal Cert.KernelIdeal.S64 .f32) (ix1 p)).toReal
  Wc p t := ((m (c.tc.loc Cert.KernelIdeal.main_arg5) : Vec Ideal Cert.KernelIdeal.S128x64 .f32) (ix2 p t)).toReal
  bc p := ((m (c.tc.loc Cert.KernelIdeal.main_arg6) : Vec Ideal Cert.KernelIdeal.S64 .f32) (ix1 p)).toReal
  We p t := ((m (c.tc.loc Cert.KernelIdeal.main_arg7) : Vec Ideal Cert.KernelIdeal.S128x64 .f32) (ix2 p t)).toReal
  be p := ((m (c.tc.loc Cert.KernelIdeal.main_arg8) : Vec Ideal Cert.KernelIdeal.S64 .f32) (ix1 p)).toReal
  Wa p := ((m (c.tc.loc Cert.KernelIdeal.main_arg9) : Vec Ideal Cert.KernelIdeal.S64x1 .f32) (ix2 p 0)).toReal
  ba := ((m (c.tc.loc Cert.KernelIdeal.main_arg10) : Vec Ideal Cert.KernelIdeal.S1 .f32) (ix1 0)).toReal
  Fu p t := ((m (c.tc.loc Cert.KernelIdeal.main_arg11) : Vec Ideal Cert.KernelIdeal.S256x64 .f32) (ix2 p t)).toReal
  Fc p t := ((m (c.tc.loc Cert.KernelIdeal.main_arg12) : Vec Ideal Cert.KernelIdeal.S128x64 .f32) (ix2 p t)).toReal
  Fo p t := ((m (c.tc.loc Cert.KernelIdeal.main_arg13) : Vec Ideal Cert.KernelIdeal.S128x64 .f32) (ix2 p t)).toReal
  Wf p := ((m (c.tc.loc Cert.KernelIdeal.main_arg14) : Vec Ideal Cert.KernelIdeal.S64x1 .f32) (ix2 p 0)).toReal

/-- Under the precondition every entry of every argument is a real number. -/
theorem real_args (h : Cert.Pre_KernelIdeal_finite (hPre_finite := finite_facts) m) (c : Dev nD) :
    (∀ i, (m (c.tc.loc Cert.KernelIdeal.main_arg0) : Vec Ideal Cert.KernelIdeal.S16x32x256 .f32) i = ((((m (c.tc.loc Cert.KernelIdeal.main_arg0) : Vec Ideal Cert.KernelIdeal.S16x32x256 .f32) i).toReal : ℝ) : EReal))
    ∧ (∀ i, (m (c.tc.loc Cert.KernelIdeal.main_arg1) : Vec Ideal Cert.KernelIdeal.S16x32x128 .f32) i = ((((m (c.tc.loc Cert.KernelIdeal.main_arg1) : Vec Ideal Cert.KernelIdeal.S16x32x128 .f32) i).toReal : ℝ) : EReal))
    ∧ (∀ i, (m (c.tc.loc Cert.KernelIdeal.main_arg2) : Vec Ideal Cert.KernelIdeal.S16x32x128x128 .f32) i = ((((m (c.tc.loc Cert.KernelIdeal.main_arg2) : Vec Ideal Cert.KernelIdeal.S16x32x128x128 .f32) i).toReal : ℝ) : EReal))
    ∧ (∀ i, (m (c.tc.loc Cert.KernelIdeal.main_arg3) : Vec Ideal Cert.KernelIdeal.S256x64 .f32) i = ((((m (c.tc.loc Cert.KernelIdeal.main_arg3) : Vec Ideal Cert.KernelIdeal.S256x64 .f32) i).toReal : ℝ) : EReal))
    ∧ (∀ i, (m (c.tc.loc Cert.KernelIdeal.main_arg4) : Vec Ideal Cert.KernelIdeal.S64 .f32) i = ((((m (c.tc.loc Cert.KernelIdeal.main_arg4) : Vec Ideal Cert.KernelIdeal.S64 .f32) i).toReal : ℝ) : EReal))
    ∧ (∀ i, (m (c.tc.loc Cert.KernelIdeal.main_arg5) : Vec Ideal Cert.KernelIdeal.S128x64 .f32) i = ((((m (c.tc.loc Cert.KernelIdeal.main_arg5) : Vec Ideal Cert.KernelIdeal.S128x64 .f32) i).toReal : ℝ) : EReal))
    ∧ (∀ i, (m (c.tc.loc Cert.KernelIdeal.main_arg6) : Vec Ideal Cert.KernelIdeal.S64 .f32) i = ((((m (c.tc.loc Cert.KernelIdeal.main_arg6) : Vec Ideal Cert.KernelIdeal.S64 .f32) i).toReal : ℝ) : EReal))
    ∧ (∀ i, (m (c.tc.loc Cert.KernelIdeal.main_arg7) : Vec Ideal Cert.KernelIdeal.S128x64 .f32) i = ((((m (c.tc.loc Cert.KernelIdeal.main_arg7) : Vec Ideal Cert.KernelIdeal.S128x64 .f32) i).toReal : ℝ) : EReal))
    ∧ (∀ i, (m (c.tc.loc Cert.KernelIdeal.main_arg8) : Vec Ideal Cert.KernelIdeal.S64 .f32) i = ((((m (c.tc.loc Cert.KernelIdeal.main_arg8) : Vec Ideal Cert.KernelIdeal.S64 .f32) i).toReal : ℝ) : EReal))
    ∧ (∀ i, (m (c.tc.loc Cert.KernelIdeal.main_arg9) : Vec Ideal Cert.KernelIdeal.S64x1 .f32) i = ((((m (c.tc.loc Cert.KernelIdeal.main_arg9) : Vec Ideal Cert.KernelIdeal.S64x1 .f32) i).toReal : ℝ) : EReal))
    ∧ (∀ i, (m (c.tc.loc Cert.KernelIdeal.main_arg10) : Vec Ideal Cert.KernelIdeal.S1 .f32) i = ((((m (c.tc.loc Cert.KernelIdeal.main_arg10) : Vec Ideal Cert.KernelIdeal.S1 .f32) i).toReal : ℝ) : EReal))
    ∧ (∀ i, (m (c.tc.loc Cert.KernelIdeal.main_arg11) : Vec Ideal Cert.KernelIdeal.S256x64 .f32) i = ((((m (c.tc.loc Cert.KernelIdeal.main_arg11) : Vec Ideal Cert.KernelIdeal.S256x64 .f32) i).toReal : ℝ) : EReal))
    ∧ (∀ i, (m (c.tc.loc Cert.KernelIdeal.main_arg12) : Vec Ideal Cert.KernelIdeal.S128x64 .f32) i = ((((m (c.tc.loc Cert.KernelIdeal.main_arg12) : Vec Ideal Cert.KernelIdeal.S128x64 .f32) i).toReal : ℝ) : EReal))
    ∧ (∀ i, (m (c.tc.loc Cert.KernelIdeal.main_arg13) : Vec Ideal Cert.KernelIdeal.S128x64 .f32) i = ((((m (c.tc.loc Cert.KernelIdeal.main_arg13) : Vec Ideal Cert.KernelIdeal.S128x64 .f32) i).toReal : ℝ) : EReal))
    ∧ (∀ i, (m (c.tc.loc Cert.KernelIdeal.main_arg14) : Vec Ideal Cert.KernelIdeal.S64x1 .f32) i = ((((m (c.tc.loc Cert.KernelIdeal.main_arg14) : Vec Ideal Cert.KernelIdeal.S64x1 .f32) i).toReal : ℝ) : EReal)) := by
  obtain ⟨h0, h1, h2, h3, h4, h5, h6, h7, h8, h9, h10, h11, h12, h13, h14⟩ := h c
  exact ⟨real_of_mask (S := Cert.KernelIdeal.S16x32x256) _ (by decide) h0,
    real_of_mask (S := Cert.KernelIdeal.S16x32x128) _ (by decide) h1,
    real_of_mask (S := Cert.KernelIdeal.S16x32x128x128) _ (by decide) h2,
    real_of_mask (S := Cert.KernelIdeal.S256x64) _ (by decide) h3,
    real_of_mask (S := Cert.KernelIdeal.S64) _ (by decide) h4,
    real_of_mask (S := Cert.KernelIdeal.S128x64) _ (by decide) h5,
    real_of_mask (S := Cert.KernelIdeal.S64) _ (by decide) h6,
    real_of_mask (S := Cert.KernelIdeal.S128x64) _ (by decide) h7,
    real_of_mask (S := Cert.KernelIdeal.S64) _ (by decide) h8,
    real_of_mask (S := Cert.KernelIdeal.S64x1) _ (by decide) h9,
    real_of_mask (S := Cert.KernelIdeal.S1) _ (by decide) h10,
    real_of_mask (S := Cert.KernelIdeal.S256x64) _ (by decide) h11,
    real_of_mask (S := Cert.KernelIdeal.S128x64) _ (by decide) h12,
    real_of_mask (S := Cert.KernelIdeal.S128x64) _ (by decide) h13,
    real_of_mask (S := Cert.KernelIdeal.S64x1) _ (by decide) h14⟩

/-- The kernel's arguments hold those numbers. -/
theorem held (h : Cert.Pre_KernelIdeal_finite (hPre_finite := finite_facts) m) (c : Dev nD) :
    Cert.KernelIdeal.My.Held m c (data m c) := by
  obtain ⟨h0, h1, h2, h3, h4, h5, h6, h7, h8, h9, h10, h11, h12, h13, h14⟩ := real_args m h c
  exact ⟨fun _ _ _ => h0 _, fun _ _ _ => h1 _, fun _ _ _ _ => h2 _, fun _ _ => h7 _,
    fun j l => (by obtain rfl : l = 0 := Subsingleton.elim _ _; exact h9 _),
    fun _ _ => h11 _, fun _ _ => h12 _, fun _ _ => h13 _,
    fun j l => (by obtain rfl : l = 0 := Subsingleton.elim _ _; exact h14 _)⟩

/-- The reference's arguments hold the same numbers, where the two programs' arguments agree. -/
theorem fed (m' : (ℓ : Loc Cert.ReferenceIdeal.nD Cert.ReferenceIdeal.τ Cert.ReferenceIdeal.sig) → Buf (Elt Ideal) ℓ)
    (h : Cert.Pre_KernelIdeal_finite (hPre_finite := finite_facts) m) (c : Dev nD)
    (a0 : m' (c.tc.loc Cert.ReferenceIdeal.main_arg0) = m (c.tc.loc Cert.KernelIdeal.main_arg0))
    (a1 : m' (c.tc.loc Cert.ReferenceIdeal.main_arg1) = m (c.tc.loc Cert.KernelIdeal.main_arg1))
    (a2 : m' (c.tc.loc Cert.ReferenceIdeal.main_arg2) = m (c.tc.loc Cert.KernelIdeal.main_arg2))
    (a3 : m' (c.tc.loc Cert.ReferenceIdeal.main_arg3) = m (c.tc.loc Cert.KernelIdeal.main_arg3))
    (a4 : m' (c.tc.loc Cert.ReferenceIdeal.main_arg4) = m (c.tc.loc Cert.KernelIdeal.main_arg4))
    (a5 : m' (c.tc.loc Cert.ReferenceIdeal.main_arg5) = m (c.tc.loc Cert.KernelIdeal.main_arg5))
    (a6 : m' (c.tc.loc Cert.ReferenceIdeal.main_arg6) = m (c.tc.loc Cert.KernelIdeal.main_arg6))
    (a7 : m' (c.tc.loc Cert.ReferenceIdeal.main_arg7) = m (c.tc.loc Cert.KernelIdeal.main_arg7))
    (a8 : m' (c.tc.loc Cert.ReferenceIdeal.main_arg8) = m (c.tc.loc Cert.KernelIdeal.main_arg8))
    (a9 : m' (c.tc.loc Cert.ReferenceIdeal.main_arg9) = m (c.tc.loc Cert.KernelIdeal.main_arg9))
    (a10 : m' (c.tc.loc Cert.ReferenceIdeal.main_arg10) = m (c.tc.loc Cert.KernelIdeal.main_arg10))
    (a11 : m' (c.tc.loc Cert.ReferenceIdeal.main_arg11) = m (c.tc.loc Cert.KernelIdeal.main_arg11))
    (a12 : m' (c.tc.loc Cert.ReferenceIdeal.main_arg12) = m (c.tc.loc Cert.KernelIdeal.main_arg12))
    (a13 : m' (c.tc.loc Cert.ReferenceIdeal.main_arg13) = m (c.tc.loc Cert.KernelIdeal.main_arg13))
    (a14 : m' (c.tc.loc Cert.ReferenceIdeal.main_arg14) = m (c.tc.loc Cert.KernelIdeal.main_arg14)) :
    Cert.ReferenceIdeal.My.Fed (data m c) (Cert.ReferenceIdeal.My.start m' c) := by
  obtain ⟨h0, h1, h2, h3, h4, h5, h6, h7, h8, h9, h10, h11, h12, h13, h14⟩ := real_args m h c
  exact ⟨fun _ _ _ => (congrFun a1 _).trans (h1 _), fun _ _ _ => (congrFun a0 _).trans (h0 _),
    fun _ _ _ _ => (congrFun a2 _).trans (h2 _), fun _ _ => (congrFun a3 _).trans (h3 _),
    fun _ => (congrFun a4 _).trans (h4 _), fun _ _ => (congrFun a5 _).trans (h5 _),
    fun _ => (congrFun a6 _).trans (h6 _), fun _ _ => (congrFun a7 _).trans (h7 _),
    fun _ => (congrFun a8 _).trans (h8 _),
    fun j l => (by obtain rfl : l = 0 := Subsingleton.elim _ _; exact (congrFun a9 _).trans (h9 _)),
    fun l => (by obtain rfl : l = 0 := Subsingleton.elim _ _; exact (congrFun a10 _).trans (h10 _)),
    fun _ _ => (congrFun a11 _).trans (h11 _), fun _ _ => (congrFun a12 _).trans (h12 _),
    fun _ _ => (congrFun a13 _).trans (h13 _),
    fun j l => (by obtain rfl : l = 0 := Subsingleton.elim _ _; exact (congrFun a14 _).trans (h14 _))⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.My.Finite
public import Idealize.ShloMosaic.Adequacy
public import Idealize.ShloMosaic.Init

@[expose] public section

noncomputable section

namespace Cert.Proof

open Idealize.ShloMosaic Idealize.SL.Sem

/-- The reference runs to its end and leaves its arguments and its semaphores alone. -/
theorem reference_quiescent : Cert.quiescent_ReferenceIdeal (hReferenceIdeal := Cert.ReferenceIdeal.Gen.facts) :=
  fun m ρ _ => (θ_run _ _ _).mono
    (fun r h => ⟨fun c => (h c).2, Idealize.ShloMosaic.sem_eq_zero_of_no_sems (by decide) r.2⟩)
    (Cert.ReferenceIdeal.Value.run m ρ)

/-- The kernel's idealization and the reference's end with one result, of arguments of real entries. -/
theorem algebraic : Cert.algebraic_KernelIdeal_ReferenceIdeal_pre_finite (hKernelIdeal := Cert.KernelIdeal.Gen.facts)
    (hReferenceIdeal := Cert.ReferenceIdeal.Gen.facts) (hPre_finite := finite_facts) := by
  intro m ρ m' ρ' hpre hagree
  refine ⟨fun c => Cert.KernelIdeal.My.last (data m c), ?_, ?_⟩
  · exact Cert.KernelIdeal.My.run ρ (data m) (held m hpre)
  · refine Cert.ReferenceIdeal.My.run m' ρ' (data m) (fun c => ?_)
    obtain ⟨a0, a1, a2, a3, a4, a5, a6, a7, a8, a9, a10, a11, a12, a13, a14⟩ := hagree c
    exact fed m m' hpre c a0 a1 a2 a3 a4 a5 a6 a7 a8 a9 a10 a11 a12 a13 a14

/-- The certificate. -/
theorem claim : Cert.Claim :=
  ⟨Cert.Kernel.Gen.facts, Cert.KernelIdeal.Gen.facts, Cert.ReferenceIdeal.Gen.facts, finite_facts,
    fun m ρ _ => Cert.Kernel.Gen.frame m ρ,
    fun m ρ _ => Cert.KernelIdeal.Gen.frame m ρ,
    fun m ρ _ => Cert.KernelIdeal.Gen.frame m ρ,
    reference_quiescent,
    fun m ρ _ => reference_quiescent m ρ trivial,
    trivial,
    algebraic⟩

end Cert.Proof

end
